-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S2x2048x16384 : Shape := ⟨3, ![2, 2048, 16384]⟩
abbrev S_ : Shape := ⟨0, ![]⟩
abbrev S16384x6144 : Shape := ⟨2, ![16384, 6144]⟩
abbrev S6144 : Shape := ⟨1, ![6144]⟩

class Facts : Prop where
  bcast_S_S6144 : S_.BroadcastsInDim S6144 (![] : Fin 0 → Fin S6144.rank)

variable [Facts]

def fn {F : FTy → Type} [FloatOps F] (main_arg0 : IVec S2x2048x16384 8) (main_arg1 : IVec S_ 32) (main_arg2 : IVec S16384x6144 8) (main_arg3 : IVec S6144 32) (main_arg4 : IVec S6144 32) (main_arg5 : IVec S6144 32) (main_arg6 : IVec S_ 32) : IVec S6144 1 × IVec S6144 1 × IVec S6144 1 :=
  let main_c : IVec S_ 32 := constantI S_ 32 0#32
  let main_v0 : IVec S6144 32 := broadcastInDim S6144 ![] bcast_S_S6144 main_c
  let main_v1 : IVec S6144 1 := cmpi .sge main_arg4 main_v0
  let main_c_0 : IVec S_ 32 := constantI S_ 32 0#32
  let main_v2 : IVec S6144 32 := broadcastInDim S6144 ![] bcast_S_S6144 main_c_0
  let main_v3 : IVec S6144 1 := cmpi .sge main_arg5 main_v2
  let main_c_1 : IVec S_ 32 := constantI S_ 32 32#32
  let main_v4 : IVec S6144 32 := broadcastInDim S6144 ![] bcast_S_S6144 main_c_1
  let main_v5 : IVec S6144 1 := cmpi .slt main_arg5 main_v4
  (main_v1, main_v3, main_v5)
-- ==== Kernel.lean ====
abbrev S2x2048x16384 : Shape := ⟨3, ![2, 2048, 16384]⟩
abbrev S_ : Shape := ⟨0, ![]⟩
abbrev S16384x6144 : Shape := ⟨2, ![16384, 6144]⟩
abbrev S6144 : Shape := ⟨1, ![6144]⟩
abbrev S1 : Shape := ⟨1, ![1]⟩
abbrev S4096x16384 : Shape := ⟨2, ![4096, 16384]⟩
abbrev S1x6144 : Shape := ⟨2, ![1, 6144]⟩
abbrev S4096x6144 : Shape := ⟨2, ![4096, 6144]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 14
  | .vmem => 14
  | .smem => 2
  | _ => 0

abbrev bufTy : (tb : Table) → Fin (tcTables nBuf tb) → BufTy
  | .hbm, ⟨0, _⟩ => ⟨S2x2048x16384, .i8⟩
  | .hbm, ⟨1, _⟩ => ⟨S_, .i32⟩
  | .hbm, ⟨2, _⟩ => ⟨S16384x6144, .i8⟩
  | .hbm, ⟨3, _⟩ => ⟨S6144, .i32⟩
  | .hbm, ⟨4, _⟩ => ⟨S6144, .i32⟩
  | .hbm, ⟨5, _⟩ => ⟨S6144, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S4096x16384, .i8⟩
  | .hbm, ⟨10, _⟩ => ⟨S1x6144, .i32⟩
  | .hbm, ⟨11, _⟩ => ⟨S1x6144, .i32⟩
  | .hbm, ⟨12, _⟩ => ⟨S1x6144, .i32⟩
  | .hbm, ⟨13, _⟩ => ⟨S4096x6144, .i8⟩
  | .local _ .vmem, ⟨0, _⟩ => ⟨S1024x1024, .i8⟩
  | .local _ .vmem, ⟨1, _⟩ => ⟨S1024x1024, .i8⟩
  | .local _ .vmem, ⟨2, _⟩ => ⟨S1024x1024, .i8⟩
  | .local _ .vmem, ⟨3, _⟩ => ⟨S1024x1024, .i8⟩
  | .local _ .vmem, ⟨4, _⟩ => ⟨S1x1024, .i32⟩
  | .local _ .vmem, ⟨5, _⟩ => ⟨S1x1024, .i32⟩
  | .local _ .vmem, ⟨6, _⟩ => ⟨S1x1024, .i32⟩
  | .local _ .vmem, ⟨7, _⟩ => ⟨S1x1024, .i32⟩
  | .local _ .vmem, ⟨8, _⟩ => ⟨S1x1024, .i32⟩
  | .local _ .vmem, ⟨9, _⟩ => ⟨S1x1024, .i32⟩
  | .local _ .vmem, ⟨10, _⟩ => ⟨S1024x1024, .i8⟩
  | .local _ .vmem, ⟨11, _⟩ => ⟨S1024x1024, .i8⟩
  | .local _ .vmem, ⟨12, _⟩ => ⟨S1024x1024, .i32⟩
  | .local _ .vmem, ⟨13, _⟩ => ⟨S1x1024, .i32⟩
  | .local _ .smem, ⟨0, _⟩ => ⟨S1, .i32⟩
  | .local _ .smem, ⟨1, _⟩ => ⟨S1, .i32⟩
  | _, _ => ⟨S2x2048x16384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 6, 16], ![false, false, false]⟩

def k0_cond2 (i : grid0.Coords) : BitVec 1 :=
  let arg2 : BitVec 32 := BitVec.ofNat 32 (i 2).val
  let c15_i32 : BitVec 32 := 15#32
  let v24 : BitVec 1 := Scalar.cmpi .eq arg2 c15_i32
  let v25 : BitVec 32 := Scalar.extui v24
  let c0_i32_13 : BitVec 32 := 0#32
  let v26 : BitVec 1 := Scalar.cmpi .ne v25 c0_i32_13
  v26

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x1024 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceIdeal.lean ====
abbrev S2x2048x16384 : Shape := ⟨3, ![2, 2048, 16384]⟩
abbrev S_ : Shape := ⟨0, ![]⟩
abbrev S16384x6144 : Shape := ⟨2, ![16384, 6144]⟩
abbrev S6144 : Shape := ⟨1, ![6144]⟩
abbrev S2x2048x16384x1 : Shape := ⟨4, ![2, 2048, 16384, 1]⟩
abbrev S1x1x16384x6144 : Shape := ⟨4, ![1, 1, 16384, 6144]⟩
abbrev S2x2048x16384x6144 : Shape := ⟨4, ![2, 2048, 16384, 6144]⟩
abbrev S2x2048x6144 : Shape := ⟨3, ![2, 2048, 6144]⟩
abbrev S1x1x6144 : Shape := ⟨3, ![1, 1, 6144]⟩
abbrev S4096x6144 : Shape := ⟨2, ![4096, 6144]⟩

abbrev nBuf : Space → Nat
  | .hbm => 138
  | .vmem => 0
  | .smem => 0
  | _ => 0

abbrev hbmTy0_0 (i : Nat) : BufTy := match i % 128 with
  | 0 => ⟨S2x2048x16384, .i8⟩
  | 1 => ⟨S_, .i32⟩
  | 2 => ⟨S16384x6144, .i8⟩
  | 3 => ⟨S6144, .i32⟩
  | 4 => ⟨S6144, .i32⟩
  | 5 => ⟨S6144, .i32⟩
  | 6 => ⟨S_, .i32⟩
  | 7 => ⟨S2x2048x16384, .i32⟩
  | 8 => ⟨S16384x6144, .i32⟩
  | 9 => ⟨S2x2048x16384x1, .i32⟩
  | 10 => ⟨S1x1x16384x6144, .i32⟩
  | 11 => ⟨S2x2048x16384x6144, .i32⟩
  | 12 => ⟨S2x2048x16384x6144, .i32⟩
  | 13 => ⟨S2x2048x16384x6144, .i32⟩
  | 14 => ⟨S_, .i32⟩
  | 15 => ⟨S2x2048x6144, .i32⟩
  | 16 => ⟨S_, .i32⟩
  | 17 => ⟨S6144, .i32⟩
  | 18 => ⟨S6144, .i32⟩
  | 19 => ⟨S6144, .i32⟩
  | 20 => ⟨S1x1x6144, .i32⟩
  | 21 => ⟨S2x2048x6144, .i32⟩
  | 22 => ⟨S2x2048x6144, .i32⟩
  | 23 => ⟨S1x1x6144, .i32⟩
  | 24 => ⟨S2x2048x6144, .i32⟩
  | 25 => ⟨S2x2048x6144, .i32⟩
  | 26 => ⟨S_, .i32⟩
  | 27 => ⟨S2x2048x6144, .i32⟩
  | 28 => ⟨S2x2048x6144, .i1⟩
  | 29 => ⟨S2x2048x6144, .i32⟩
  | 30 => ⟨S2x2048x6144, .i32⟩
  | 31 => ⟨S6144, .i32⟩
  | 32 => ⟨S_, .i32⟩
  | 33 => ⟨S_, .i32⟩
  | 34 => ⟨S2x2048x6144, .i32⟩
  | 35 => ⟨S2x2048x6144, .i32⟩
  | 36 => ⟨S2x2048x6144, .i32⟩
  | 37 => ⟨S_, .i32⟩
  | 38 => ⟨S2x2048x6144, .i32⟩
  | 39 => ⟨S2x2048x6144, .i32⟩
  | 40 => ⟨S_, .i32⟩
  | 41 => ⟨S2x2048x6144, .i32⟩
  | 42 => ⟨S2x2048x6144, .i32⟩
  | 43 => ⟨S_, .i32⟩
  | 44 => ⟨S6144, .i32⟩
  | 45 => ⟨S6144, .i32⟩
  | 46 => ⟨S_, .i32⟩
  | 47 => ⟨S6144, .i32⟩
  | 48 => ⟨S6144, .i32⟩
  | 49 => ⟨S1x1x6144, .i32⟩
  | 50 => ⟨S2x2048x6144, .i32⟩
  | 51 => ⟨S2x2048x6144, .i32⟩
  | 52 => ⟨S1x1x6144, .i32⟩
  | 53 => ⟨S2x2048x6144, .i32⟩
  | 54 => ⟨S2x2048x6144, .i32⟩
  | 55 => ⟨S1x1x6144, .i32⟩
  | 56 => ⟨S2x2048x6144, .i32⟩
  | 57 => ⟨S2x2048x6144, .i32⟩
  | 58 => ⟨S2x2048x6144, .i32⟩
  | 59 => ⟨S1x1x6144, .i32⟩
  | 60 => ⟨S2x2048x6144, .i32⟩
  | 61 => ⟨S2x2048x6144, .i32⟩
  | 62 => ⟨S_, .i32⟩
  | 63 => ⟨S2x2048x6144, .i32⟩
  | 64 => ⟨S2x2048x6144, .i32⟩
  | 65 => ⟨S_, .i32⟩
  | 66 => ⟨S2x2048x6144, .i32⟩
  | 67 => ⟨S2x2048x6144, .i32⟩
  | 68 => ⟨S2x2048x6144, .i32⟩
  | 69 => ⟨S_, .i32⟩
  | 70 => ⟨S2x2048x6144, .i32⟩
  | 71 => ⟨S2x2048x6144, .i32⟩
  | 72 => ⟨S_, .i32⟩
  | 73 => ⟨S2x2048x6144, .i32⟩
  | 74 => ⟨S2x2048x6144, .i32⟩
  | 75 => ⟨S_, .i32⟩
  | 76 => ⟨S2x2048x6144, .i32⟩
  | 77 => ⟨S2x2048x6144, .i32⟩
  | 78 => ⟨S2x2048x6144, .i32⟩
  | 79 => ⟨S_, .i32⟩
  | 80 => ⟨S2x2048x6144, .i32⟩
  | 81 => ⟨S2x2048x6144, .i32⟩
  | 82 => ⟨S2x2048x6144, .i32⟩
  | 83 => ⟨S_, .i32⟩
  | 84 => ⟨S2x2048x6144, .i32⟩
  | 85 => ⟨S2x2048x6144, .i32⟩
  | 86 => ⟨S2x2048x6144, .i32⟩
  | 87 => ⟨S2x2048x6144, .i32⟩
  | 88 => ⟨S2x2048x6144, .i1⟩
  | 89 => ⟨S2x2048x6144, .i32⟩
  | 90 => ⟨S2x2048x6144, .i32⟩
  | 91 => ⟨S_, .i32⟩
  | 92 => ⟨S2x2048x6144, .i32⟩
  | 93 => ⟨S2x2048x6144, .i32⟩
  | 94 => ⟨S_, .i32⟩
  | 95 => ⟨S2x2048x6144, .i32⟩
  | 96 => ⟨S2x2048x6144, .i32⟩
  | 97 => ⟨S2x2048x6144, .i32⟩
  | 98 => ⟨S2x2048x6144, .i32⟩
  | 99 => ⟨S2x2048x6144, .i32⟩
  | 100 => ⟨S2x2048x6144, .i32⟩
  | 101 => ⟨S_, .i32⟩
  | 102 => ⟨S6144, .i32⟩
  | 103 => ⟨S6144, .i32⟩
  | 104 => ⟨S_, .i32⟩
  | 105 => ⟨S6144, .i32⟩
  | 106 => ⟨S6144, .i32⟩
  | 107 => ⟨S1x1x6144, .i32⟩
  | 108 => ⟨S2x2048x6144, .i32⟩
  | 109 => ⟨S2x2048x6144, .i32⟩
  | 110 => ⟨S_, .i32⟩
  | 111 => ⟨S6144, .i32⟩
  | 112 => ⟨S6144, .i32⟩
  | 113 => ⟨S_, .i32⟩
  | 114 => ⟨S2x2048x6144, .i32⟩
  | 115 => ⟨S2x2048x6144, .i1⟩
  | 116 => ⟨S2x2048x6144, .i32⟩
  | 117 => ⟨S1x1x6144, .i32⟩
  | 118 => ⟨S2x2048x6144, .i32⟩
  | 119 => ⟨S2x2048x6144, .i32⟩
  | 120 => ⟨S1x1x6144, .i32⟩
  | 121 => ⟨S2x2048x6144, .i32⟩
  | 122 => ⟨S2x2048x6144, .i32⟩
  | 123 => ⟨S2x2048x6144, .i1⟩
  | 124 => ⟨S2x2048x6144, .i32⟩
  | 125 => ⟨S2x2048x6144, .i32⟩
  | 126 => ⟨S2x2048x6144, .i32⟩
  | 127 => ⟨S2x2048x6144, .i32⟩
  | _ => ⟨S2x2048x16384, .i8⟩

abbrev hbmTy0_1 (i : Nat) : BufTy := match i % 128 with
  | 0 => ⟨S_, .i32⟩
  | 1 => ⟨S_, .i32⟩
  | 2 => ⟨S_, .i32⟩
  | 3 => ⟨S2x2048x6144, .i32⟩
  | 4 => ⟨S2x2048x6144, .i32⟩
  | 5 => ⟨S_, .i32⟩
  | 6 => ⟨S2x2048x6144, .i32⟩
  | 7 => ⟨S2x2048x6144, .i32⟩
  | 8 => ⟨S2x2048x6144, .i8⟩
  | 9 => ⟨S4096x6144, .i8⟩
  | _ => ⟨S2x2048x16384, .i8⟩

abbrev hbmTy (i : Nat) : BufTy := match i / 128 with
  | 0 => hbmTy0_0 i
  | 1 => hbmTy0_1 i
  | _ => ⟨S2x2048x16384, .i8⟩

abbrev bufTy : (tb : Table) → Fin (tcTables nBuf tb) → BufTy
  | .hbm, ⟨i, _⟩ => hbmTy i
  | _, _ => ⟨S2x2048x16384, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_c_3 : Ref sig .tc := ⟨.hbm, 33, rfl⟩
abbrev main_call0_v0 : Ref sig .tc := ⟨.hbm, 34, rfl⟩
abbrev main_call0_v1 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_c_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_14 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_c_16 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_19 : Ref sig .tc := ⟨.hbm, 110, rfl⟩
abbrev main_v81 : Ref sig .tc := ⟨.hbm, 111, rfl⟩
abbrev main_v82 : Ref sig .tc := ⟨.hbm, 112, rfl⟩
abbrev main_c_20 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_21 : Ref sig .tc := ⟨.hbm, 128, rfl⟩
abbrev main_c_22 : Ref sig .tc := ⟨.hbm, 129, rfl⟩
abbrev main_call2_v0 : Ref sig .tc := ⟨.hbm, 130, rfl⟩
abbrev main_call2_v1 : Ref sig .tc := ⟨.hbm, 131, rfl⟩
abbrev main_call2_v2 : Ref sig .tc := ⟨.hbm, 132, rfl⟩
abbrev main_call2_v3 : Ref sig .tc := ⟨.hbm, 133, rfl⟩
abbrev main_call2_v4 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]
-- ==== Proof.Requant.lean ====
/-
  Hand-written. The requantisation of one accumulator word, as the kernel writes it and as the reference writes it: two
  functions on 32-bit words, and the proof that they are one function wherever the multiplier is not negative and the
  shift is between 0 and 31. Nothing here mentions a program.
-/
module

public import Idealize.ShloMosaic.PureOps
public import Idealize.ShloMosaic.Lib.WordArith
public import Mathlib.Tactic.Linarith
public import Mathlib.Tactic.Ring
public import Mathlib.Tactic.Positivity

@[expose] public section

noncomputable section

namespace Cert.Requant

open Idealize.ShloMosaic Idealize.ShloMosaic.WordArith

/-! ## The operations of a word, read as integers -/

/-- An arithmetic right shift by an amount below 32 divides by the power of two, rounding down. -/
theorem toInt_shrsi (u : ArithUnit) (x n : BitVec 32) (hn : n.toNat < 32) :
    (IntOp.shrsi u x n).toInt = x.toInt / 2 ^ n.toNat := by
  unfold IntOp.shrsi
  rw [if_pos hn, BitVec.sshiftRight_eq', BitVec.toInt_sshiftRight, Int.shiftRight_eq_div_pow]
  norm_cast

/-- A logical right shift by an amount below 32 divides the unsigned value by the power of two. -/
theorem toNat_shrui (u : ArithUnit) (x n : BitVec 32) (hn : n.toNat < 32) :
    (IntOp.shrui u x n).toNat = x.toNat / 2 ^ n.toNat := by
  unfold IntOp.shrui
  rw [if_pos hn, BitVec.ushiftRight_eq', BitVec.toNat_ushiftRight, Nat.shiftRight_eq_div_pow]

/-- A left shift by an amount below 32 multiplies the unsigned value by the power of two, modulo 2³². -/
theorem toNat_shli (u : ArithUnit) (x n : BitVec 32) (hn : n.toNat < 32) :
    (IntOp.shli u x n).toNat = x.toNat * 2 ^ n.toNat % 2 ^ 32 := by
  unfold IntOp.shli
  rw [if_pos hn, BitVec.shiftLeft_eq', BitVec.toNat_shiftLeft, Nat.shiftLeft_eq]

/-- The low sixteen bits of a word. -/
theorem toNat_low16 (x : BitVec 32) : (IntOp.andi x 65535#32).toNat = x.toNat % 65536 := by
  unfold IntOp.andi
  rw [BitVec.toNat_and]
  exact Nat.and_two_pow_sub_one_eq_mod x.toNat 16

/-- A sum that stays below 2³² is the sum of the unsigned values. -/
theorem toNat_addi (x y : BitVec 32) (h : x.toNat + y.toNat < 2 ^ 32) : (IntOp.addi x y).toNat = x.toNat + y.toNat := by
  unfold IntOp.addi
  rw [BitVec.toNat_add, Nat.mod_eq_of_lt h]

/-- A product that stays below 2³² is the product of the unsigned values. -/
theorem toNat_muli (x y : BitVec 32) (h : x.toNat * y.toNat < 2 ^ 32) : (IntOp.muli x y).toNat = x.toNat * y.toNat := by
  unfold IntOp.muli
  rw [BitVec.toNat_mul, Nat.mod_eq_of_lt h]

/-- A word's signed value, when its unsigned value is below 2³¹, is that value. -/
theorem toInt_of_toNat_lt (x : BitVec 32) (h : x.toNat < 2 ^ 31) : x.toInt = (x.toNat : Int) := by
  rw [BitVec.toInt_eq_toNat_cond]; omega

/-- The signed value of any word lies in [−2³¹, 2³¹). -/
theorem toInt_range (x : BitVec 32) : -2147483648 ≤ x.toInt ∧ x.toInt < 2147483648 := by
  have h := x.isLt
  rw [BitVec.toInt_eq_toNat_cond]; omega

/-- The low sixteen bits of a word, from its signed value. -/
theorem toInt_low16 (x : BitVec 32) : (IntOp.andi x 65535#32).toInt = x.toInt % 65536 := by
  have h1 := toNat_low16 x
  have h := x.isLt
  rw [toInt_of_toNat_lt _ (by omega), h1, BitVec.toInt_eq_toNat_cond]
  omega

/-- A signed sum in range is the sum. -/
theorem toInt_addi (x y : BitVec 32) (h1 : -2147483648 ≤ x.toInt + y.toInt) (h2 : x.toInt + y.toInt < 2147483648) :
    (IntOp.addi x y).toInt = x.toInt + y.toInt :=
  toInt_add_of_bounds x y (by norm_num; omega) (by norm_num; omega)

/-- A signed difference in range is the difference. -/
theorem toInt_subi (x y : BitVec 32) (h1 : -2147483648 ≤ x.toInt - y.toInt) (h2 : x.toInt - y.toInt < 2147483648) :
    (IntOp.subi x y).toInt = x.toInt - y.toInt :=
  toInt_sub_of_bounds x y (by norm_num; omega) (by norm_num; omega)

/-- A signed product in range is the product. -/
theorem toInt_muli (x y : BitVec 32) (h1 : -2147483648 ≤ x.toInt * y.toInt) (h2 : x.toInt * y.toInt < 2147483648) :
    (IntOp.muli x y).toInt = x.toInt * y.toInt :=
  toInt_mul_of_bounds x y (by norm_num; omega) (by norm_num; omega)

/-- Doubling a word in range by a left shift doubles its signed value. -/
theorem toInt_shli_one (u : ArithUnit) (x : BitVec 32) (h1 : -1073741824 ≤ x.toInt) (h2 : x.toInt < 1073741824) :
    (IntOp.shli u x 1#32).toInt = 2 * x.toInt := by
  have e := toNat_shli u x 1#32 (by decide)
  have h := x.isLt
  rw [show (1#32 : BitVec 32).toNat = 1 from rfl] at e
  rw [BitVec.toInt_eq_toNat_cond] at h1 h2 ⊢
  rw [BitVec.toInt_eq_toNat_cond (x := x), e]
  omega

/-- The product of a number in [−l, u] and one in [0, b] lies in [−l·b, u·b]. -/
theorem mul_range {x y l u b : Int} (hl : 0 ≤ l) (hu : 0 ≤ u) (h1 : -l ≤ x) (h2 : x ≤ u) (h3 : 0 ≤ y) (h4 : y ≤ b) :
    -(l * b) ≤ x * y ∧ x * y ≤ u * b := by
  constructor <;> nlinarith

/-! ## The doubling high product -/

/-- The kernel's rounding high product of `a` and `m`: `(a·m + 2³⁰) / 2³¹` from four 16-bit partial products. -/
def kernelHigh (a m : BitVec 32) : BitVec 32 :=
  let a1 := IntOp.shrsi .vector a 16#32
  let a0 := IntOp.andi a 65535#32
  let b1 := IntOp.shrsi .vector m 16#32
  let b0 := IntOp.andi m 65535#32
  let mid := IntOp.addi (IntOp.muli a1 b0) (IntOp.shrui .vector (IntOp.muli a0 b0) 16#32)
  let low := IntOp.addi (IntOp.addi (IntOp.muli a0 b1) (IntOp.andi mid 65535#32)) 16384#32
  let high := IntOp.addi (IntOp.muli a1 b1) (IntOp.shrsi .vector mid 16#32)
  IntOp.addi (IntOp.shli .vector high 1#32) (IntOp.shrsi .vector low 15#32)

/-- The kernel's high product is the integer `⌊(a·m + 2³⁰) / 2³¹⌋`: no step of it wraps. -/
theorem toInt_kernelHigh (a m : BitVec 32) (hm : 0 ≤ m.toInt) :
    (kernelHigh a m).toInt = (a.toInt * m.toInt + 1073741824) / 2147483648 := by
  obtain ⟨ra1, ra2⟩ := toInt_range a
  obtain ⟨rm1, rm2⟩ := toInt_range m
  have ea1 : (IntOp.shrsi .vector a 16#32).toInt = a.toInt / 65536 := toInt_shrsi _ _ _ (by decide)
  have eb1 : (IntOp.shrsi .vector m 16#32).toInt = m.toInt / 65536 := toInt_shrsi _ _ _ (by decide)
  have ea0 := toInt_low16 a
  have eb0 := toInt_low16 m
  have na0 := toNat_low16 a
  have nb0 := toNat_low16 m
  unfold kernelHigh
  dsimp only
  generalize IntOp.shrsi .vector a 16#32 = a1 at *
  generalize IntOp.andi a 65535#32 = a0 at *
  generalize IntOp.shrsi .vector m 16#32 = b1 at *
  generalize IntOp.andi m 65535#32 = b0 at *
  have la1 : -(32768 : Int) ≤ a1.toInt := by omega
  have ua1 : a1.toInt ≤ 32767 := by omega
  have la0 : 0 ≤ a0.toInt := by omega
  have ua0 : a0.toInt ≤ 65535 := by omega
  have lb1 : 0 ≤ b1.toInt := by omega
  have ub1 : b1.toInt ≤ 32767 := by omega
  have lb0 : 0 ≤ b0.toInt := by omega
  have ub0 : b0.toInt ≤ 65535 := by omega
  have hA : a.toInt = a1.toInt * 65536 + a0.toInt := by omega
  have hM : m.toInt = b1.toInt * 65536 + b0.toInt := by omega
  have hAM : a.toInt * m.toInt = a1.toInt * b1.toInt * 4294967296 + (a1.toInt * b0.toInt + a0.toInt * b1.toInt) * 65536
      + a0.toInt * b0.toInt := by rw [hA, hM]; ring
  obtain ⟨l11, u11⟩ := mul_range (by norm_num) (by norm_num) la1 ua1 lb1 ub1
  obtain ⟨l10, u10⟩ := mul_range (by norm_num) (by norm_num) la1 ua1 lb0 ub0
  obtain ⟨l01, u01⟩ := mul_range (l := 0) (by norm_num) (by norm_num) (by omega) ua0 lb1 ub1
  obtain ⟨l00, u00⟩ := mul_range (l := 0) (by norm_num) (by norm_num) (by omega) ua0 lb0 ub0
  obtain ⟨lam, uam⟩ := mul_range (x := a.toInt) (y := m.toInt) (l := 2147483648) (u := 2147483647) (b := 2147483647)
    (by norm_num) (by norm_num) (by omega) (by omega) hm (by omega)
  -- the low product, unsigned
  have za0 : (a0.toNat : Int) = a0.toInt := by rw [toInt_of_toNat_lt a0 (by omega)]
  have zb0 : (b0.toNat : Int) = b0.toInt := by rw [toInt_of_toNat_lt b0 (by omega)]
  have n00 : ((a0.toNat * b0.toNat : Nat) : Int) = a0.toInt * b0.toInt := by rw [Nat.cast_mul, za0, zb0]
  have e00 := toNat_muli a0 b0 (by omega)
  have elo : (IntOp.shrui .vector (IntOp.muli a0 b0) 16#32).toNat = (IntOp.muli a0 b0).toNat / 65536 :=
    toNat_shrui _ _ _ (by decide)
  generalize hlo : IntOp.shrui .vector (IntOp.muli a0 b0) 16#32 = lo at *
  have ilo : lo.toInt = (a0.toInt * b0.toInt) / 65536 := by rw [toInt_of_toNat_lt lo (by omega)]; omega
  have e10 := toInt_muli a1 b0 (by omega) (by omega)
  have emid := toInt_addi (IntOp.muli a1 b0) lo (by omega) (by omega)
  generalize IntOp.addi (IntOp.muli a1 b0) lo = mid at *
  have em0 := toInt_low16 mid
  have em1 : (IntOp.shrsi .vector mid 16#32).toInt = mid.toInt / 65536 := toInt_shrsi _ _ _ (by decide)
  have e01 := toInt_muli a0 b1 (by omega) (by omega)
  have e11 := toInt_muli a1 b1 (by omega) (by omega)
  have es := toInt_addi (IntOp.muli a0 b1) (IntOp.andi mid 65535#32) (by omega) (by omega)
  have k14 : (16384#32 : BitVec 32).toInt = 16384 := by decide
  have elow := toInt_addi (IntOp.addi (IntOp.muli a0 b1) (IntOp.andi mid 65535#32)) 16384#32 (by omega) (by omega)
  have ehigh := toInt_addi (IntOp.muli a1 b1) (IntOp.shrsi .vector mid 16#32) (by omega) (by omega)
  generalize IntOp.addi (IntOp.addi (IntOp.muli a0 b1) (IntOp.andi mid 65535#32)) 16384#32 = low at *
  generalize IntOp.addi (IntOp.muli a1 b1) (IntOp.shrsi .vector mid 16#32) = high at *
  have ed := toInt_shli_one .vector high (by omega) (by omega)
  have el : (IntOp.shrsi .vector low 15#32).toInt = low.toInt / 32768 := toInt_shrsi _ _ _ (by decide)
  have lq : -2147483648 ≤ (a.toInt * m.toInt + 1073741824) / 2147483648 := by omega
  have uq : (a.toInt * m.toInt + 1073741824) / 2147483648 < 2147483648 := by omega
  generalize a.toInt * m.toInt = am at *
  generalize a1.toInt * b1.toInt = p11 at *
  generalize a1.toInt * b0.toInt = p10 at *
  generalize a0.toInt * b1.toInt = p01 at *
  generalize a0.toInt * b0.toInt = p00 at *
  have eq : 2 * high.toInt + low.toInt / 32768 = (am + 1073741824) / 2147483648 := by omega
  rw [toInt_addi _ _ (by omega) (by omega), ed, el, eq]

/-- The reference's rounding high product of `a` and `m`: the 64-bit product of the magnitudes in 16-bit limbs, the
    rounding constant added with its carry, shifted right by 31, and the sign put back. -/
def refHigh (a m : BitVec 32) : BitVec 32 :=
  let neg := IntOp.cmpi .slt a 0#32
  let u := IntOp.absi a
  let a1 := IntOp.shrui .host u 16#32
  let a0 := IntOp.andi u 65535#32
  let b1 := IntOp.shrui .host m 16#32
  let b0 := IntOp.andi m 65535#32
  let lo := IntOp.muli a0 b0
  let mid := IntOp.addi (IntOp.muli a1 b0) (IntOp.muli a0 b1)
  let t := IntOp.addi (IntOp.shrui .host lo 16#32) (IntOp.andi mid 65535#32)
  let low := IntOp.ori (IntOp.shli .host (IntOp.andi t 65535#32) 16#32) (IntOp.andi lo 65535#32)
  let low2 := IntOp.addi low (Scalar.select neg 1073741823#32 1073741824#32)
  let high := IntOp.addi (IntOp.addi (IntOp.addi (IntOp.muli a1 b1) (IntOp.shrui .host mid 16#32)) (IntOp.shrui .host t 16#32))
    ((IntOp.cmpi .ult low2 low).setWidth 32)
  let r := IntOp.ori (IntOp.shli .host high 1#32) (IntOp.shrui .host low2 31#32)
  Scalar.select neg (-r) r

/-- A left-shifted word or-ed with one that fits in the freed bits is their sum. -/
theorem toNat_ori_shli (x y : BitVec 32) (n : Nat) (hn : n < 32) (hx : x.toNat * 2 ^ n < 2 ^ 32) (hy : y.toNat < 2 ^ n) :
    (IntOp.ori (IntOp.shli .host x (BitVec.ofNat 32 n)) y).toNat = x.toNat * 2 ^ n + y.toNat := by
  have en : (BitVec.ofNat 32 n).toNat = n := by rw [BitVec.toNat_ofNat, Nat.mod_eq_of_lt (by omega)]
  unfold IntOp.ori
  rw [BitVec.toNat_or, toNat_shli _ _ _ (by omega), en, Nat.mod_eq_of_lt hx, Nat.mul_comm, Nat.two_pow_add_eq_or_of_lt hy]

/-- The carry bit of an unsigned addition, as a word. -/
theorem toNat_carry (x y : BitVec 32) : ((IntOp.cmpi .ult x y).setWidth 32).toNat = if x.toNat < y.toNat then 1 else 0 := by
  unfold IntOp.cmpi
  dsimp only [BitVec.ult]
  split <;> rename_i h <;> simp [h]

/-- Limbs summed: the high word and the low word, their carry taken, are the whole 64-bit sum. -/
theorem limb_total {p mid lo t cy low low2 k high um : Nat} (ht : t = lo / 65536 + mid % 65536)
    (hh : high = p + mid / 65536 + t / 65536 + cy) (hl : low = t % 65536 * 65536 + lo % 65536)
    (hc : cy * 4294967296 + low2 = low + k) (hu : um = p * 4294967296 + mid * 65536 + lo) :
    high * 4294967296 + low2 = um + k := by
  have h1 := Nat.div_add_mod mid 65536
  have h2 := Nat.div_add_mod lo 65536
  have h3 := Nat.div_add_mod t 65536
  linarith

/-- The 64-bit limb arithmetic on unsigned words: for `u ≤ 2³¹` and `m < 2³¹`, and a rounding constant `k ≤ 2³⁰`, the
    shifted sum is `⌊(u·m + k) / 2³¹⌋`. -/
theorem toNat_limbs (u m k : BitVec 32) (hu : u.toNat ≤ 2147483648) (hm : m.toNat < 2147483648) (hk : k.toNat ≤ 1073741824) :
    (let a1 := IntOp.shrui .host u 16#32
     let a0 := IntOp.andi u 65535#32
     let b1 := IntOp.shrui .host m 16#32
     let b0 := IntOp.andi m 65535#32
     let lo := IntOp.muli a0 b0
     let mid := IntOp.addi (IntOp.muli a1 b0) (IntOp.muli a0 b1)
     let t := IntOp.addi (IntOp.shrui .host lo 16#32) (IntOp.andi mid 65535#32)
     let low := IntOp.ori (IntOp.shli .host (IntOp.andi t 65535#32) 16#32) (IntOp.andi lo 65535#32)
     let low2 := IntOp.addi low k
     let high := IntOp.addi (IntOp.addi (IntOp.addi (IntOp.muli a1 b1) (IntOp.shrui .host mid 16#32)) (IntOp.shrui .host t 16#32))
       ((IntOp.cmpi .ult low2 low).setWidth 32)
     IntOp.ori (IntOp.shli .host high 1#32) (IntOp.shrui .host low2 31#32)).toNat
      = (u.toNat * m.toNat + k.toNat) / 2147483648 := by
  have ea1 : (IntOp.shrui .host u 16#32).toNat = u.toNat / 65536 := toNat_shrui _ _ _ (by decide)
  have eb1 : (IntOp.shrui .host m 16#32).toNat = m.toNat / 65536 := toNat_shrui _ _ _ (by decide)
  have ea0 := toNat_low16 u
  have eb0 := toNat_low16 m
  dsimp only
  generalize IntOp.shrui .host u 16#32 = a1 at *
  generalize IntOp.andi u 65535#32 = a0 at *
  generalize IntOp.shrui .host m 16#32 = b1 at *
  generalize IntOp.andi m 65535#32 = b0 at *
  have ua1 : a1.toNat ≤ 32768 := by omega
  have ua0 : a0.toNat ≤ 65535 := by omega
  have ub1 : b1.toNat ≤ 32767 := by omega
  have ub0 : b0.toNat ≤ 65535 := by omega
  have hU : u.toNat = a1.toNat * 65536 + a0.toNat := by omega
  have hM : m.toNat = b1.toNat * 65536 + b0.toNat := by omega
  have hUM : u.toNat * m.toNat = a1.toNat * b1.toNat * 4294967296 + (a1.toNat * b0.toNat + a0.toNat * b1.toNat) * 65536
      + a0.toNat * b0.toNat := by rw [hU, hM]; ring
  have u11 : a1.toNat * b1.toNat ≤ 32768 * 32767 := Nat.mul_le_mul ua1 ub1
  have u10 : a1.toNat * b0.toNat ≤ 32768 * 65535 := Nat.mul_le_mul ua1 ub0
  have u01 : a0.toNat * b1.toNat ≤ 65535 * 32767 := Nat.mul_le_mul ua0 ub1
  have u00 : a0.toNat * b0.toNat ≤ 65535 * 65535 := Nat.mul_le_mul ua0 ub0
  have uUM : u.toNat * m.toNat ≤ 2147483648 * 2147483647 := Nat.mul_le_mul hu (by omega)
  have e00 := toNat_muli a0 b0 (by omega)
  have e10 := toNat_muli a1 b0 (by omega)
  have e01 := toNat_muli a0 b1 (by omega)
  have e11 := toNat_muli a1 b1 (by omega)
  have emid := toNat_addi (IntOp.muli a1 b0) (IntOp.muli a0 b1) (by omega)
  generalize IntOp.muli a0 b0 = lo at *
  generalize IntOp.addi (IntOp.muli a1 b0) (IntOp.muli a0 b1) = mid at *
  have elo1 : (IntOp.shrui .host lo 16#32).toNat = lo.toNat / 65536 := toNat_shrui _ _ _ (by decide)
  have elo0 := toNat_low16 lo
  have emid1 : (IntOp.shrui .host mid 16#32).toNat = mid.toNat / 65536 := toNat_shrui _ _ _ (by decide)
  have emid0 := toNat_low16 mid
  have et := toNat_addi (IntOp.shrui .host lo 16#32) (IntOp.andi mid 65535#32) (by omega)
  generalize IntOp.addi (IntOp.shrui .host lo 16#32) (IntOp.andi mid 65535#32) = t at *
  have et1 : (IntOp.shrui .host t 16#32).toNat = t.toNat / 65536 := toNat_shrui _ _ _ (by decide)
  have et0 := toNat_low16 t
  have elow := toNat_ori_shli (IntOp.andi t 65535#32) (IntOp.andi lo 65535#32) 16 (by omega) (by omega) (by omega)
  generalize IntOp.ori (IntOp.shli .host (IntOp.andi t 65535#32) 16#32) (IntOp.andi lo 65535#32) = low at *
  have elow2 : (IntOp.addi low k).toNat = (low.toNat + k.toNat) % 4294967296 := by
    unfold IntOp.addi; rw [BitVec.toNat_add]
  have ec := toNat_carry (IntOp.addi low k) low
  generalize IntOp.addi low k = low2 at *
  generalize (IntOp.cmpi .ult low2 low).setWidth 32 = cy at *
  have hcy : cy.toNat * 4294967296 + low2.toNat = low.toNat + k.toNat := by
    split at ec <;> omega
  have elow31 : (IntOp.shrui .host low2 31#32).toNat = low2.toNat / 2147483648 := toNat_shrui _ _ _ (by decide)
  generalize u.toNat * m.toNat = um at *
  generalize a1.toNat * b1.toNat = p11 at *
  generalize a1.toNat * b0.toNat = p10 at *
  generalize a0.toNat * b1.toNat = p01 at *
  generalize a0.toNat * b0.toNat = p00 at *
  have lcy : cy.toNat ≤ 1 := by split at ec <;> omega
  have s1 := toNat_addi (IntOp.muli a1 b1) (IntOp.shrui .host mid 16#32) (by omega)
  have s2 := toNat_addi (IntOp.addi (IntOp.muli a1 b1) (IntOp.shrui .host mid 16#32)) (IntOp.shrui .host t 16#32) (by omega)
  have s3 := toNat_addi (IntOp.addi (IntOp.addi (IntOp.muli a1 b1) (IntOp.shrui .host mid 16#32)) (IntOp.shrui .host t 16#32)) cy
    (by omega)
  generalize IntOp.addi (IntOp.addi (IntOp.addi (IntOp.muli a1 b1) (IntOp.shrui .host mid 16#32)) (IntOp.shrui .host t 16#32)) cy
    = high at *
  have ht : high.toNat = p11 + mid.toNat / 65536 + t.toNat / 65536 + cy.toNat := by rw [s3, s2, s1, e11, emid1, et1]
  have hl : low.toNat = t.toNat % 65536 * 65536 + lo.toNat % 65536 := by rw [elow, et0, elo0]; norm_num
  have hum : um = p11 * 4294967296 + mid.toNat * 65536 + lo.toNat := by rw [hUM, emid, e10, e01, e00]
  have tot : high.toNat * 4294967296 + low2.toNat = um + k.toNat :=
    limb_total (by rw [et, elo1, emid0]) ht hl hcy hum
  have er := toNat_ori_shli high (IntOp.shrui .host low2 31#32) 1 (by omega) (by omega) (by omega)
  rw [er, elow31]
  omega

/-- The magnitude of a word: its unsigned value is the absolute value of the signed one. -/
theorem toNat_absi (a : BitVec 32) : ((IntOp.absi a).toNat : Int) = |a.toInt| := by
  have h := a.isLt
  unfold IntOp.absi
  by_cases hs : a.msb
  · have h2 := BitVec.msb_eq_true_iff_two_mul_ge.mp hs
    rw [if_pos hs, BitVec.toNat_neg, BitVec.toInt_eq_toNat_cond, if_neg (by omega), abs_of_neg (by omega)]
    omega
  · have h2 := BitVec.msb_eq_false_iff_two_mul_lt.mp (by simpa using hs)
    rw [if_neg hs, BitVec.toInt_eq_toNat_cond, if_pos (by omega), abs_of_nonneg (by omega)]

/-- The reference's high product is the same integer `⌊(a·m + 2³⁰) / 2³¹⌋`. -/
theorem toInt_refHigh (a m : BitVec 32) (hm : 0 ≤ m.toInt) :
    (refHigh a m).toInt = (a.toInt * m.toInt + 1073741824) / 2147483648 := by
  obtain ⟨ra1, ra2⟩ := toInt_range a
  obtain ⟨rm1, rm2⟩ := toInt_range m
  have em : (m.toNat : Int) = m.toInt := by
    have := m.isLt
    rw [BitVec.toInt_eq_toNat_cond] at hm ⊢; omega
  have eu := toNat_absi a
  have hu : (IntOp.absi a).toNat ≤ 2147483648 := by
    rcases abs_cases a.toInt with ⟨e, _⟩ | ⟨e, _⟩ <;> omega
  by_cases hs : a.toInt < 0
  · have hneg : IntOp.cmpi .slt a 0#32 = 1#1 := by
      unfold IntOp.cmpi; simp [BitVec.slt, hs]
    have hl := toNat_limbs (IntOp.absi a) m 1073741823#32 hu (by omega) (by decide)
    unfold refHigh
    dsimp only at hl ⊢
    rw [hneg]
    simp only [show ∀ x y : BitVec 32, Scalar.select 1#1 x y = x from fun _ _ => rfl]
    generalize IntOp.ori _ _ = r at *
    have hp : (((IntOp.absi a).toNat * m.toNat : Nat) : Int) = -(a.toInt * m.toInt) := by
      rw [Nat.cast_mul, eu, em, abs_of_neg hs, neg_mul]
    obtain ⟨up, up2⟩ := mul_range (x := a.toInt) (y := m.toInt) (l := 2147483648) (u := 0) (b := 2147483647)
      (by norm_num) (by norm_num) (by omega) (by omega) hm (by omega)
    rw [show (1073741823#32 : BitVec 32).toNat = 1073741823 from rfl] at hl
    generalize (IntOp.absi a).toNat * m.toNat = um at *
    generalize a.toInt * m.toInt = am at *
    have hr : r.toNat < 2147483648 := by omega
    rw [BitVec.toInt_eq_toNat_cond, BitVec.toNat_neg]
    omega
  · have hneg : IntOp.cmpi .slt a 0#32 = 0#1 := by
      unfold IntOp.cmpi; simp [BitVec.slt, hs]
    have hl := toNat_limbs (IntOp.absi a) m 1073741824#32 hu (by omega) (by decide)
    unfold refHigh
    dsimp only at hl ⊢
    rw [hneg]
    simp only [show ∀ x y : BitVec 32, Scalar.select 0#1 x y = y from fun _ _ => rfl]
    generalize IntOp.ori _ _ = r at *
    have hp : (((IntOp.absi a).toNat * m.toNat : Nat) : Int) = a.toInt * m.toInt := by
      rw [Nat.cast_mul, eu, em, abs_of_nonneg (by omega)]
    obtain ⟨up2, up⟩ := mul_range (x := a.toInt) (y := m.toInt) (l := 0) (u := 2147483647) (b := 2147483647)
      (by norm_num) (by norm_num) (by omega) (by omega) hm (by omega)
    rw [show (1073741824#32 : BitVec 32).toNat = 1073741824 from rfl] at hl
    generalize (IntOp.absi a).toNat * m.toNat = um at *
    generalize a.toInt * m.toInt = am at *
    rw [BitVec.toInt_eq_toNat_cond]
    omega

/-- The two high products are one word. -/
theorem kernelHigh_eq_refHigh (a m : BitVec 32) (hm : 0 ≤ m.toInt) : kernelHigh a m = refHigh a m :=
  BitVec.eq_of_toInt_eq ((toInt_kernelHigh a m hm).trans (toInt_refHigh a m hm).symm)

/-- The high product of a non-negative multiplier is never −2³¹ nor 2³¹ − 1. -/
theorem refHigh_range (a m : BitVec 32) (hm : 0 ≤ m.toInt) :
    -2147483648 < (refHigh a m).toInt ∧ (refHigh a m).toInt < 2147483647 := by
  obtain ⟨ra1, ra2⟩ := toInt_range a
  obtain ⟨rm1, rm2⟩ := toInt_range m
  rw [toInt_refHigh a m hm]
  obtain ⟨h1, h2⟩ := mul_range (x := a.toInt) (y := m.toInt) (l := 2147483648) (u := 2147483647) (b := 2147483647)
    (by norm_num) (by norm_num) (by omega) (by omega) hm (by omega)
  generalize a.toInt * m.toInt = am at *
  omega

/-! ## The rounding shift -/

/-- The kernel's rounding division of `q` by `2^s`: half of the quotient by `2^(s-1)`, rounded up, after one is taken
    from a negative `q`; nothing at `s = 0`. -/
def kernelShift (q s : BitVec 32) : BitVec 32 :=
  let nz := IntOp.minsi s 1#32
  IntOp.shrsi .vector (IntOp.addi (IntOp.shrsi .vector (IntOp.subi q (IntOp.andi (IntOp.shrsi .vector q 31#32) nz))
    (IntOp.subi s nz)) nz) nz

/-- The reference's rounding division of `q` by `2^s`: the quotient rounded down, plus one where the remainder is past
    half (past half by more than the sign, for a negative `q`). -/
def refShift (q s : BitVec 32) : BitVec 32 :=
  let mask := IntOp.subi (IntOp.shli .host 1#32 s) 1#32
  IntOp.addi (IntOp.shrsi .host q s)
    ((IntOp.cmpi .sgt (IntOp.andi q mask)
      (IntOp.addi (IntOp.shrsi .host mask 1#32) ((IntOp.cmpi .slt q 0#32).setWidth 32))).setWidth 32)

/-- The integer identity under the two rounding divisions, `P = 2^(s-1)`, `n` the sign of `q`. -/
theorem round_div (q P n : Int) (hP : 0 < P) (hn : n = 0 ∨ n = 1) :
    ((q - n) / P + 1) / 2 = q / (2 * P) + (if P - 1 + n < q % (2 * P) then 1 else 0) := by
  have hd := Int.emod_add_mul_ediv q (2 * P)
  have h0 := Int.emod_nonneg q (show 2 * P ≠ 0 by omega)
  have h1 := Int.emod_lt_of_pos q (show 0 < 2 * P by omega)
  generalize q / (2 * P) = h at *
  generalize q % (2 * P) = r at *
  have e : (q - n) / P = 2 * h + (r - n) / P := by
    rw [show q - n = (r - n) + P * (2 * h) by rw [← hd]; ring, Int.add_mul_ediv_left _ _ (by omega)]; ring
  rw [e]
  by_cases c1 : r - n < 0
  · have : (r - n) / P = -1 := by
      rw [Int.ediv_eq_iff_of_pos hP]; constructor <;> omega
    rw [this, if_neg (by omega)]; omega
  · by_cases c2 : r - n < P
    · rw [Int.ediv_eq_zero_of_lt (by omega) c2, if_neg (by omega)]; omega
    · have : (r - n) / P = 1 := by
        rw [Int.ediv_eq_iff_of_pos hP]; constructor <;> omega
      rw [this, if_pos (by omega)]; omega

/-- The bits of a word under a mask `2^n - 1`, as the remainder of its signed value. -/
theorem toInt_mask (q : BitVec 32) (n : Nat) (hn : n < 32) (mask : BitVec 32) (hmask : mask.toNat = 2 ^ n - 1) :
    (IntOp.andi q mask).toInt = q.toInt % 2 ^ n := by
  have e : (IntOp.andi q mask).toNat = q.toNat % 2 ^ n := by
    unfold IntOp.andi
    rw [BitVec.toNat_and, hmask, Nat.and_two_pow_sub_one_eq_mod]
  have hp : (2 : Nat) ^ n ≤ 2 ^ 31 := Nat.pow_le_pow_right (by norm_num) (by omega)
  have hlt := Nat.mod_lt q.toNat (show 0 < 2 ^ n by positivity)
  rw [toInt_of_toNat_lt _ (by omega), e]
  have hd : (2 : Int) ^ n ∣ 2 ^ 32 := pow_dvd_pow 2 (by omega)
  rw [BitVec.toInt_eq_toNat_cond]
  push_cast
  split
  · rfl
  · rw [Int.sub_emod, show (4294967296 : Int) % 2 ^ n = 0 from Int.emod_eq_zero_of_dvd hd, sub_zero, Int.emod_emod]

/-- The sign of a word, as a word. -/
theorem toInt_sign (q : BitVec 32) : ((IntOp.cmpi .slt q 0#32).setWidth 32).toInt = if q.toInt < 0 then 1 else 0 := by
  unfold IntOp.cmpi
  simp only [BitVec.slt]
  split <;> rename_i h <;> simp [h]

/-- A signed comparison's bit, as a word. -/
theorem toInt_sgt (x y : BitVec 32) : ((IntOp.cmpi .sgt x y).setWidth 32).toInt = if y.toInt < x.toInt then 1 else 0 := by
  unfold IntOp.cmpi
  simp only [BitVec.slt]
  split <;> rename_i h <;> simp [h]

/-- The two rounding divisions are one word, for a shift from 0 to 31 and a dividend off the two ends of the range. -/
theorem kernelShift_eq_refShift (q s : BitVec 32) (hs0 : 0 ≤ s.toInt) (hs1 : s.toInt < 32)
    (hq0 : -2147483648 < q.toInt) (hq1 : q.toInt < 2147483647) : kernelShift q s = refShift q s := by
  have es : (s.toNat : Int) = s.toInt := by
    have := s.isLt
    rw [BitVec.toInt_eq_toNat_cond] at hs0 ⊢; omega
  have hsn : s.toNat < 32 := by omega
  obtain ⟨n, hn, rfl⟩ : ∃ n, n < 32 ∧ s = BitVec.ofNat 32 n := ⟨s.toNat, hsn, by simp⟩
  have en : (BitVec.ofNat 32 n).toNat = n := by rw [BitVec.toNat_ofNat, Nat.mod_eq_of_lt (by omega)]
  rw [en] at es
  -- the mask and its half
  have emask : (IntOp.subi (IntOp.shli .host 1#32 (BitVec.ofNat 32 n)) 1#32).toNat = 2 ^ n - 1 := by
    have hp : (2 : Nat) ^ n ≤ 2 ^ 31 := Nat.pow_le_pow_right (by norm_num) (by omega)
    have hp0 : 0 < (2 : Nat) ^ n := by positivity
    have e1 := toNat_shli .host 1#32 (BitVec.ofNat 32 n) (by omega)
    rw [en, show (1#32 : BitVec 32).toNat = 1 from rfl, one_mul, Nat.mod_eq_of_lt (by omega)] at e1
    unfold IntOp.subi
    rw [BitVec.toNat_sub, e1, show (1#32 : BitVec 32).toNat = 1 from rfl]
    omega
  apply BitVec.eq_of_toInt_eq
  unfold kernelShift refShift
  dsimp only
  generalize hmk : IntOp.subi (IntOp.shli .host 1#32 (BitVec.ofNat 32 n)) 1#32 = mask at *
  have hrem := toInt_mask q n hn mask emask
  have hsign := toInt_sign q
  have hdiv := toInt_shrsi .host q (BitVec.ofNat 32 n) (by omega)
  rw [en] at hdiv
  have imask : mask.toInt = 2 ^ n - 1 := by
    have hp : (2 : Nat) ^ n ≤ 2 ^ 31 := Nat.pow_le_pow_right (by norm_num) (by omega)
    have hp0 : 0 < (2 : Nat) ^ n := by positivity
    rw [toInt_of_toNat_lt _ (by omega), emask]
    push_cast [Nat.cast_sub hp0]; rfl
  have ehalf : (IntOp.shrsi .host mask 1#32).toInt = mask.toInt / 2 := toInt_shrsi _ _ _ (by decide)
  have hcmp := toInt_sgt (IntOp.andi q mask)
    (IntOp.addi (IntOp.shrsi .host mask 1#32) ((IntOp.cmpi .slt q 0#32).setWidth 32))
  have hb : (2 : Int) ^ n ≤ 2 ^ 31 := pow_le_pow_right₀ (by norm_num) (by omega)
  have hb0 : (0 : Int) < 2 ^ n := by positivity
  have hsg : ((IntOp.cmpi .slt q 0#32).setWidth 32).toInt = 0 ∨ ((IntOp.cmpi .slt q 0#32).setWidth 32).toInt = 1 := by
    rw [hsign]; split <;> simp
  have hthr := toInt_addi (IntOp.shrsi .host mask 1#32) ((IntOp.cmpi .slt q 0#32).setWidth 32) (by omega) (by omega)
  rw [hthr, hrem] at hcmp
  have e31 : (IntOp.shrsi .vector q 31#32).toInt = q.toInt / 2147483648 := toInt_shrsi _ _ _ (by decide)
  rcases Nat.eq_zero_or_pos n with rfl | hpos
  · -- no shift
    have hnz : IntOp.minsi (BitVec.ofNat 32 0) 1#32 = 0#32 := by decide
    rw [hnz]
    have k1 : IntOp.andi (IntOp.shrsi .vector q 31#32) 0#32 = 0#32 := by unfold IntOp.andi; simp
    have k2 : IntOp.subi q 0#32 = q := by unfold IntOp.subi; simp
    have k3 : IntOp.subi (BitVec.ofNat 32 0) 0#32 = 0#32 := by decide
    have k4 : ∀ x : BitVec 32, IntOp.shrsi .vector x 0#32 = x := fun x => by
      apply BitVec.eq_of_toInt_eq
      rw [toInt_shrsi _ _ _ (by decide)]; simp
    have k5 : ∀ x : BitVec 32, IntOp.addi x 0#32 = x := fun x => by unfold IntOp.addi; simp
    rw [k1, k2, k3, k4, k5, k4]
    rw [pow_zero] at hcmp hdiv imask
    rw [if_neg (by omega)] at hcmp
    rw [toInt_addi _ _ (by omega) (by omega), hdiv, hcmp]
    omega
  · obtain ⟨k, rfl⟩ : ∃ k, n = k + 1 := ⟨n - 1, by omega⟩
    have hnz : IntOp.minsi (BitVec.ofNat 32 (k + 1)) 1#32 = 1#32 := by
      unfold IntOp.minsi
      split
      · rename_i h
        simp only [BitVec.slt, decide_eq_true_eq] at h
        rw [← es, show (1#32 : BitVec 32).toInt = 1 from by decide] at h
        omega
      · rfl
    rw [hnz]
    have i1 : (1#32 : BitVec 32).toInt = 1 := by decide
    have esk : IntOp.subi (BitVec.ofNat 32 (k + 1)) 1#32 = BitVec.ofNat 32 k := by
      apply BitVec.eq_of_toInt_eq
      rw [toInt_subi _ _ (by omega) (by omega), ← es, i1, toInt_ofNat_small k (by omega)]
      push_cast; ring
    rw [esk]
    have esgn : IntOp.andi (IntOp.shrsi .vector q 31#32) 1#32 = (IntOp.cmpi .slt q 0#32).setWidth 32 := by
      apply BitVec.eq_of_toInt_eq
      have := toInt_mask (IntOp.shrsi .vector q 31#32) 1 (by omega) 1#32 rfl
      rw [this, hsign, e31]
      split <;> omega
    rw [esgn]
    have enk : (BitVec.ofNat 32 k).toNat = k := by rw [BitVec.toNat_ofNat, Nat.mod_eq_of_lt (by omega)]
    have et := toInt_subi q ((IntOp.cmpi .slt q 0#32).setWidth 32) (by omega) (by split at hsign <;> omega)
    have hsh := toInt_shrsi .vector (IntOp.subi q ((IntOp.cmpi .slt q 0#32).setWidth 32)) (BitVec.ofNat 32 k) (by omega)
    rw [enk] at hsh
    generalize IntOp.subi q ((IntOp.cmpi .slt q 0#32).setWidth 32) = t at *
    have hpk : (0 : Int) < 2 ^ k := by positivity
    have tr : -2147483648 ≤ t.toInt ∧ t.toInt < 2147483647 := by
      constructor
      · exact (toInt_range t).1
      · rw [et]; omega
    have b1 : -2147483648 ≤ t.toInt / 2 ^ k := by
      rw [Int.le_ediv_iff_mul_le hpk]; nlinarith
    have b2 : t.toInt / 2 ^ k < 2147483647 := by
      rw [Int.ediv_lt_iff_lt_mul hpk]; nlinarith
    have ea := toInt_addi (IntOp.shrsi .vector t (BitVec.ofNat 32 k)) 1#32 (by omega) (by omega)
    have ef : (IntOp.shrsi .vector (IntOp.addi (IntOp.shrsi .vector t (BitVec.ofNat 32 k)) 1#32) 1#32).toInt
        = (IntOp.addi (IntOp.shrsi .vector t (BitVec.ofNat 32 k)) 1#32).toInt / 2 := toInt_shrsi _ _ _ (by decide)
    rw [ef, ea, hsh, i1, et]
    have key := round_div q.toInt (2 ^ k) ((IntOp.cmpi .slt q 0#32).setWidth 32).toInt hpk hsg
    rw [pow_succ, mul_comm ((2 : Int) ^ k) 2] at hcmp hdiv imask
    have hhalf : mask.toInt / 2 = 2 ^ k - 1 := by rw [imask]; omega
    rw [ehalf, hhalf] at hcmp
    rw [← hcmp, ← hdiv] at key
    rw [key]
    rw [et] at b1 b2
    refine (toInt_addi _ _ ?_ ?_).symm
    · rw [← key]; omega
    · rw [← key]; omega

end Cert.Requant

end
-- ==== Proof.Block.lean ====
/-
  Hand-written. The body's payloads read at one index, over the exact (ideal) float values: one step of the product scratch adds
  the integer dot product of its blocks, one step of the column-sum scratch adds the block's column sums, and the last
  step's result is the requantised word of Requant.lean.
-/
module

public import proofs.«01_k».proof.Proof.Gen.KernelIdeal.Skeleton
public import proofs.«01_k».proof.Proof.Requant
public import Idealize.ShloMosaic.Lib.Pointwise
public import Mathlib.Data.BitVec

@[expose] public section

set_option maxRecDepth 16384

noncomputable section

namespace Cert.KernelIdeal.Block

open Cert.KernelIdeal Cert.KernelIdeal.Gen Idealize.ShloMosaic Cert.Requant
open scoped BigOperators

/-- An 8-bit word widened to 32 bits with its sign. -/
abbrev wide (b : BitVec 8) : BitVec 32 := b.signExtend 32

/-- A finite sum of products of widened bytes is the word of the exact integer sum. -/
theorem ofInt_sum {ι : Type} (S : Finset ι) (x w : ι → BitVec 8) :
    BitVec.ofInt 32 (∑ k ∈ S, (x k).toInt * (w k).toInt) = ∑ k ∈ S, wide (x k) * wide (w k) := by
  classical
  induction S using Finset.induction_on with
  | empty => rfl
  | insert a S ha ih =>
    rw [Finset.sum_insert ha, Finset.sum_insert ha, BitVec.ofInt_add, BitVec.ofInt_mul, ih]
    rfl

/-- Rounding an integer half-to-even leaves it. -/
theorem roundHalfEven_int (n : ℤ) : Ideal.roundHalfEven (n : ℝ) = n := by
  unfold Ideal.roundHalfEven
  simp

/-- Converting an integer of absolute value at most 2^24 to a 32-bit word is its word. -/
theorem fptosi_int (n : ℤ) (h0 : -16777216 ≤ n) (h1 : n ≤ 16777216) :
    FloatOps.fptosi (F := Ideal) (φ := .f32) 32 (Ideal.liftRound Ideal.roundHalfEven ((n : ℝ) : EReal))
      = BitVec.ofInt 32 n := by
  rw [Ideal.liftRound_coe, roundHalfEven_int]
  show BitVec.ofInt 32 (Ideal.toIntClamped _ _ ((n : ℝ) : EReal)) = _
  rw [Ideal.toIntClamped_coe]
  congr 1
  simp only [Int.floor_intCast, Int.ceil_intCast, ite_self]
  norm_num
  omega

/-- A sum of 1024 products of bytes is at most 2^24 in absolute value. -/
theorem dot_range (x w : Fin 1024 → BitVec 8) :
    -16777216 ≤ ∑ k, (x k).toInt * (w k).toInt ∧ ∑ k, (x k).toInt * (w k).toInt ≤ 16777216 := by
  have hb : ∀ b : BitVec 8, -128 ≤ b.toInt ∧ b.toInt ≤ 128 := fun b => by
    have h1 := BitVec.toInt_lt (x := b)
    have h2 := BitVec.le_toInt b
    constructor <;> norm_num at h1 h2 ⊢ <;> omega
  have ht : ∀ k, |(x k).toInt * (w k).toInt| ≤ 16384 := fun k => by
    rw [abs_mul]
    have h1 : |(x k).toInt| ≤ 128 := abs_le.2 (hb _)
    have h2 : |(w k).toInt| ≤ 128 := abs_le.2 (hb _)
    exact (mul_le_mul h1 h2 (abs_nonneg _) (by norm_num)).trans (by norm_num)
  have hs : |∑ k, (x k).toInt * (w k).toInt| ≤ 16777216 := by
    refine (Finset.abs_sum_le_sum_abs _ _).trans ?_
    refine (Finset.sum_le_sum fun k _ => ht k).trans ?_
    simp
  exact abs_le.1 hs

/-- The kernel's block product, rounded and converted: the 32-bit sum of products of widened bytes. -/
theorem product_apply (x w : Vec Ideal S1024x1024 .i8) (r c : Fin 1024) :
    FloatOps.fptosi (F := Ideal) (φ := .f32) 32 (Ideal.liftRound Ideal.roundHalfEven
      (∑ k : Fin 1024, (((x (ix2 r k)).toInt : ℝ) : EReal) * (((w (ix2 k c)).toInt : ℝ) : EReal)))
      = ∑ k : Fin 1024, wide (x (ix2 r k)) * wide (w (ix2 k c)) := by
  have h : (∑ k : Fin 1024, (((x (ix2 r k)).toInt : ℝ) : EReal) * (((w (ix2 k c)).toInt : ℝ) : EReal))
      = (((∑ k : Fin 1024, (x (ix2 r k)).toInt * (w (ix2 k c)).toInt : ℤ) : ℝ) : EReal) := by
    classical
    induction (Finset.univ : Finset (Fin 1024)) using Finset.induction_on with
    | empty => simp
    | insert k S hk ih =>
      rw [Finset.sum_insert hk, Finset.sum_insert hk, ih, Int.cast_add, EReal.coe_add, Int.cast_mul, EReal.coe_mul]
  rw [h, fptosi_int _ (dot_range _ _).1 (dot_range _ _).2, ofInt_sum]

/-- One step of the product scratch at (r, c): what it held plus the block's dot product. -/
theorem pay3_apply (w x : Vec Ideal S1024x1024 .i8) (a : Vec Ideal S1024x1024 .i32) (r c : Fin 1024) :
    k0_pay3 w x a (ix2 r c) = a (ix2 r c) + ∑ k : Fin 1024, wide (x (ix2 r k)) * wide (w (ix2 k c)) := by
  rw [← product_apply]
  pointwise [k0_pay3]
  rfl

/-- One step of the column-sum scratch at column c: what it held plus the block's column sum. -/
theorem pay4_apply (w : Vec Ideal S1024x1024 .i8) (s : Vec Ideal S1x1024 .i32) (c : Fin 1024) :
    k0_pay4 w s (ix2 0 c) = s (ix2 0 c) + ∑ k : Fin 1024, wide (w (ix2 k c)) := by
  pointwise [k0_pay4]
  rfl

/-- The reset product scratch is zero. -/
theorem pay1_apply (r c : Fin 1024) : k0_pay1 (ix2 r c) = 0 := by
  pointwise [k0_pay1]
  rfl

/-- The reset column-sum scratch is zero. -/
theorem pay2_apply (c : Fin 1024) : k0_pay2 (ix2 0 c) = 0 := by
  pointwise [k0_pay2]
  rfl

/-- The word the last step writes from a product `a`, a bias `b`, a zero point `za`, a column sum `s`, a multiplier `m`, a
    shift `sh` and a zero point `zc`: the corrected accumulator, multiplied high, shifted, moved and saturated to 8 bits. -/
def finish (a b za s m sh zc : BitVec 32) : BitVec 8 :=
  (IntOp.minsi 127#32 (IntOp.maxsi 4294967168#32
    (IntOp.addi (kernelShift (kernelHigh (IntOp.addi a (IntOp.subi b (IntOp.muli za s))) m) sh) zc))).setWidth 8

/-- The last step's result at (r, c). -/
theorem pay5_apply (a : Vec Ideal S1024x1024 .i32) (b s m sh : Vec Ideal S1x1024 .i32) (za zc : BitVec 32)
    (r c : Fin 1024) :
    k0_pay5 (F := Ideal) (k0_pay8 (F := Ideal) sh) zc (k0_pay12 (F := Ideal) a b za s m) (k0_pay13 (F := Ideal) a b za s m)
        (k0_pay14 (F := Ideal) a b za s m) k0_pay15 (ix2 r c)
      = finish (a (ix2 r c)) (b (ix2 0 c)) za (s (ix2 0 c)) (m (ix2 0 c)) (sh (ix2 0 c)) zc := by
  pointwise [k0_pay5, k0_pay6, k0_pay7, k0_pay8, k0_pay9, k0_pay10, k0_pay11, k0_pay12, k0_pay13, k0_pay14, k0_pay15]
  rfl

end Cert.KernelIdeal.Block

end
-- ==== Proof.Spec.lean ====
/-
  Hand-written. The quantised linear layer both programs compute, on its seven arguments as plain arrays of words: the
  integer product of the widened inputs and weights, the column sums of the weights, and the requantised byte of each.
-/
module

public import proofs.«01_k».proof.Proof.Block

@[expose] public section

set_option maxRecDepth 16384

noncomputable section

namespace Cert.Spec

open Idealize.ShloMosaic Cert.KernelIdeal.Block
open scoped BigOperators

/-- Row `r`, position `k` of the inputs, the two leading axes counted as one; 0 outside the array. -/
def xw (X : (⟨3, ![2, 2048, 16384]⟩ : Shape).Idx → BitVec 8) (r k : ℕ) : BitVec 32 :=
  if h : r < 4096 ∧ k < 16384 then
    wide (X (ix3 ⟨r / 2048, by omega⟩ ⟨r % 2048, by omega⟩ ⟨k, h.2⟩)) else 0

/-- Row `k`, column `n` of the weights; 0 outside the array. -/
def ww (W : (⟨2, ![16384, 6144]⟩ : Shape).Idx → BitVec 8) (k n : ℕ) : BitVec 32 :=
  if h : k < 16384 ∧ n < 6144 then wide (W (ix2 ⟨k, h.1⟩ ⟨n, h.2⟩)) else 0

/-- The product of the first `d` positions of row `r` with column `n`. -/
def dot (X : (⟨3, ![2, 2048, 16384]⟩ : Shape).Idx → BitVec 8) (W : (⟨2, ![16384, 6144]⟩ : Shape).Idx → BitVec 8)
    (d r n : ℕ) : BitVec 32 := ∑ k ∈ Finset.range d, xw X r k * ww W k n

/-- The sum of the first `d` weights of column `n`. -/
def colSum (W : (⟨2, ![16384, 6144]⟩ : Shape).Idx → BitVec 8) (d n : ℕ) : BitVec 32 :=
  ∑ k ∈ Finset.range d, ww W k n

/-- A product of `d + e` positions is that of the first `d` plus that of the next `e`. -/
theorem dot_add (X : (⟨3, ![2, 2048, 16384]⟩ : Shape).Idx → BitVec 8) (W : (⟨2, ![16384, 6144]⟩ : Shape).Idx → BitVec 8)
    (d e r n : ℕ) : dot X W (d + e) r n = dot X W d r n + ∑ k : Fin e, xw X r (d + k.val) * ww W (d + k.val) n := by
  unfold dot
  rw [Finset.sum_range_add, Finset.sum_range fun k => xw X r (d + k) * ww W (d + k) n]

/-- A column sum of `d + e` weights is that of the first `d` plus that of the next `e`. -/
theorem colSum_add (W : (⟨2, ![16384, 6144]⟩ : Shape).Idx → BitVec 8) (d e n : ℕ) :
    colSum W (d + e) n = colSum W d n + ∑ k : Fin e, ww W (d + k.val) n := by
  unfold colSum
  rw [Finset.sum_range_add, Finset.sum_range fun k => ww W (d + k) n]

/-- The layer's result at row `i 0` (of the 4096 merged rows) and column `i 1`. -/
def result (X : (⟨3, ![2, 2048, 16384]⟩ : Shape).Idx → BitVec 8) (za : (⟨0, ![]⟩ : Shape).Idx → BitVec 32)
    (W : (⟨2, ![16384, 6144]⟩ : Shape).Idx → BitVec 8) (bias mult shift : (⟨1, ![6144]⟩ : Shape).Idx → BitVec 32)
    (zc : (⟨0, ![]⟩ : Shape).Idx → BitVec 32) : (⟨2, ![4096, 6144]⟩ : Shape).Idx → BitVec 8 := fun i =>
  finish (dot X W 16384 (i 0).val (i 1).val) (bias (ix1 (i 1))) (za ix0) (colSum W 16384 (i 1).val) (mult (ix1 (i 1)))
    (shift (ix1 (i 1))) (zc ix0)

/-- Equal arguments give equal results. -/
theorem result_congr {X X' : (⟨3, ![2, 2048, 16384]⟩ : Shape).Idx → BitVec 8} {za za' zc zc' : (⟨0, ![]⟩ : Shape).Idx → BitVec 32}
    {W W' : (⟨2, ![16384, 6144]⟩ : Shape).Idx → BitVec 8} {bias bias' mult mult' shift shift' : (⟨1, ![6144]⟩ : Shape).Idx → BitVec 32}
    (h0 : X = X') (h1 : za = za') (h2 : W = W') (h3 : bias = bias') (h4 : mult = mult') (h5 : shift = shift') (h6 : zc = zc') :
    result X za W bias mult shift zc = result X' za' W' bias' mult' shift' zc' := by
  rw [h0, h1, h2, h3, h4, h5, h6]

end Cert.Spec

end
-- ==== Proof.Inputs.lean ====
/-
  Hand-written. What each input window's block holds at a grid point, in terms of the arguments as launched: point `t` of the
  4 × 6 × 16 grid reads block (t / 96, t mod 16) of the inputs, block (t mod 16, t / 16 mod 6) of the weights, block
  t / 16 mod 6 of the three rows, and the two zero-point words.
-/
module

public import proofs.«01_k».proof.Proof.Gen.KernelIdeal.Value
public import proofs.«01_k».proof.Proof.Spec
public import Idealize.ShloMosaic.Lib.Tactic
public import Idealize.ShloMosaic.Lib.StableHlo.Run
public import Idealize.ShloMosaic.Lib.Pipeline.Value

@[expose] public section

set_option maxRecDepth 16384

noncomputable section

namespace Cert.KernelIdeal.Inputs

open Cert.KernelIdeal Cert.KernelIdeal.Gen Idealize.ShloMosaic Idealize.ShloMosaic.TcCoe Idealize.SL.Sem
open Idealize.ShloMosaic.StableHlo Cert.KernelIdeal.Block Cert.Spec

variable (m : (ℓ : Loc nD τ sig) → Buf (Elt Ideal) ℓ) (c : Dev nD)

/-- The inputs as launched. -/
abbrev argX : S2x2048x16384.Idx → BitVec 8 := m ((c : Thread nD τ).loc main_arg0)
/-- The inputs' zero point as launched. -/
abbrev argZa : S_.Idx → BitVec 32 := m ((c : Thread nD τ).loc main_arg1)
/-- The weights as launched. -/
abbrev argW : S16384x6144.Idx → BitVec 8 := m ((c : Thread nD τ).loc main_arg2)
/-- The bias as launched. -/
abbrev argB : S6144.Idx → BitVec 32 := m ((c : Thread nD τ).loc main_arg3)
/-- The multipliers as launched. -/
abbrev argM : S6144.Idx → BitVec 32 := m ((c : Thread nD τ).loc main_arg4)
/-- The shifts as launched. -/
abbrev argS : S6144.Idx → BitVec 32 := m ((c : Thread nD τ).loc main_arg5)
/-- The results' zero point as launched. -/
abbrev argZc : S_.Idx → BitVec 32 := m ((c : Thread nD τ).loc main_arg6)

/-- The region finds the inputs' zero point as one word. -/
theorem V_v0 : V m c main_v0 = shapeCast S1 (argZa m c) shapeCasts_S_S1 := by
  unfold V
  after_results
  rfl
/-- The region finds the results' zero point as one word. -/
theorem V_v1 : V m c main_v1 = shapeCast S1 (argZc m c) shapeCasts_S_S1 := by
  unfold V
  after_results
  rfl
/-- The region finds the inputs with their two leading axes merged. -/
theorem V_v2 : V m c main_v2 = shapeCast S4096x16384 (argX m c) shapeCasts_S2x2048x16384_S4096x16384 := by
  unfold V
  after_results
  rfl
/-- The region finds the bias as one row. -/
theorem V_v3 : V m c main_v3 = shapeCast S1x6144 (argB m c) shapeCasts_S6144_S1x6144 := by
  unfold V
  after_results
  rfl
/-- The region finds the multipliers as one row. -/
theorem V_v4 : V m c main_v4 = shapeCast S1x6144 (argM m c) shapeCasts_S6144_S1x6144 := by
  unfold V
  after_results
  rfl
/-- The region finds the shifts as one row. -/
theorem V_v5 : V m c main_v5 = shapeCast S1x6144 (argS m c) shapeCasts_S6144_S1x6144 := by
  unfold V
  after_results
  rfl

/-- The printed index maps of the five blocked input windows, decided over the grid. -/
theorem idx_facts : ∀ t : Fin cfg0.N,
    (win0_2.index t (0 : Fin 2) = t.val / 96 ∧ win0_2.index t (1 : Fin 2) = t.val % 16)
    ∧ (win0_3.index t (0 : Fin 2) = t.val % 16 ∧ win0_3.index t (1 : Fin 2) = t.val / 16 % 6)
    ∧ (win0_4.index t (0 : Fin 2) = 0 ∧ win0_4.index t (1 : Fin 2) = t.val / 16 % 6)
    ∧ (win0_5.index t (0 : Fin 2) = 0 ∧ win0_5.index t (1 : Fin 2) = t.val / 16 % 6)
    ∧ (win0_6.index t (0 : Fin 2) = 0 ∧ win0_6.index t (1 : Fin 2) = t.val / 16 % 6) :=
  (by decide +kernel : ∀ t : Fin grid0.N, _)

/-- There are 384 grid points. -/
theorem lt_N (t : Fin cfg0.N) : t.val < 384 := lt_of_lt_of_eq t.isLt N_0

/-- The input block at a point, widened. -/
theorem iblk2_apply (t : Fin cfg0.N) (r k : Fin 1024) :
    wide (iblk m c 2 t (ix2 r k)) = xw (argX m c) (1024 * (t.val / 96) + r.val) (1024 * (t.val % 16) + k.val) := by
  have hN := lt_N t
  have hi := (idx_facts t).1
  have hr := r.isLt
  have hk := k.isLt
  unfold xw
  rw [dif_pos ⟨by omega, by omega⟩]
  congr 1
  unfold iblk
  rw [View.read_apply]
  show V m c main_v2 _ = _
  rw [V_v2]
  have e : ∀ j : S4096x16384.Idx, (j 0).val = 1024 * (t.val / 96) + r.val → (j 1).val = 1024 * (t.val % 16) + k.val →
      shapeCast S4096x16384 (argX m c) shapeCasts_S2x2048x16384_S4096x16384 j
        = argX m c (ix3 ⟨(1024 * (t.val / 96) + r.val) / 2048, by omega⟩ ⟨(1024 * (t.val / 96) + r.val) % 2048, by omega⟩
            ⟨1024 * (t.val % 16) + k.val, by omega⟩) := by
    intro j h0 h1
    idx_vars j
    pointwise
    simp only [h0]
    rw [show j1 = ⟨1024 * (t.val % 16) + k.val, by omega⟩ from Fin.ext h1]
  refine e _ ?_ ?_
  · show win0_2.index t 0 * 1024 + 1 * r.val = _
    rw [hi.1]; omega
  · show win0_2.index t 1 * 1024 + 1 * k.val = _
    rw [hi.2]; omega

/-- The weight block at a point, widened. -/
theorem iblk3_apply (t : Fin cfg0.N) (k n : Fin 1024) :
    wide (iblk m c 3 t (ix2 k n)) = ww (argW m c) (1024 * (t.val % 16) + k.val) (1024 * (t.val / 16 % 6) + n.val) := by
  have hN := lt_N t
  have hi := (idx_facts t).2.1
  have hn := n.isLt
  have hk := k.isLt
  unfold ww
  rw [dif_pos ⟨by omega, by omega⟩]
  congr 1
  unfold iblk
  rw [View.read_apply]
  show V m c main_arg2 _ = _
  rw [V_main_arg2]
  refine congrArg (argW m c) (funext fun a => Fin.ext ?_)
  match a with
  | ⟨0, _⟩ =>
    show win0_3.index t 0 * 1024 + 1 * k.val = 1024 * (t.val % 16) + k.val
    rw [hi.1]; omega
  | ⟨1, _⟩ =>
    show win0_3.index t 1 * 1024 + 1 * n.val = 1024 * (t.val / 16 % 6) + n.val
    rw [hi.2]; omega

/-- A row of 6144 read at an index of its one-row shape. -/
theorem row_apply (x : S6144.Idx → BitVec 32) (j : S1x6144.Idx) (p : ℕ) (hp : p < 6144) (h : (j 1).val = p) :
    shapeCast S1x6144 x shapeCasts_S6144_S1x6144 j = x (ix1 ⟨p, hp⟩) := by
  idx_vars j
  pointwise
  exact congrArg (fun b => x (ix1 b)) (Fin.ext h)

/-- The column a block of a row window reads at a point lies in the row. -/
theorem col_lt (t : Fin cfg0.N) (n : Fin 1024) : 1024 * (t.val / 16 % 6) + n.val < 6144 := by
  have hn := n.isLt
  omega

/-- The bias block at a point. -/
theorem iblk4_apply (t : Fin cfg0.N) (n : Fin 1024) :
    iblk m c 4 t (ix2 0 n) = argB m c (ix1 ⟨1024 * (t.val / 16 % 6) + n.val, col_lt t n⟩) := by
  have hi := (idx_facts t).2.2.1
  unfold iblk
  rw [View.read_apply]
  show V m c main_v3 _ = _
  rw [V_v3]
  refine row_apply _ _ _ _ ?_
  show win0_4.index t 1 * 1024 + 1 * n.val = _
  rw [hi.2]; omega

/-- The multiplier block at a point. -/
theorem iblk5_apply (t : Fin cfg0.N) (n : Fin 1024) :
    iblk m c 5 t (ix2 0 n) = argM m c (ix1 ⟨1024 * (t.val / 16 % 6) + n.val, col_lt t n⟩) := by
  have hi := (idx_facts t).2.2.2.1
  unfold iblk
  rw [View.read_apply]
  show V m c main_v4 _ = _
  rw [V_v4]
  refine row_apply _ _ _ _ ?_
  show win0_5.index t 1 * 1024 + 1 * n.val = _
  rw [hi.2]; omega

/-- The shift block at a point. -/
theorem iblk6_apply (t : Fin cfg0.N) (n : Fin 1024) :
    iblk m c 6 t (ix2 0 n) = argS m c (ix1 ⟨1024 * (t.val / 16 % 6) + n.val, col_lt t n⟩) := by
  have hi := (idx_facts t).2.2.2.2
  unfold iblk
  rw [View.read_apply]
  show V m c main_v5 _ = _
  rw [V_v5]
  refine row_apply _ _ _ _ ?_
  show win0_6.index t 1 * 1024 + 1 * n.val = _
  rw [hi.2]; omega

/-- A single word read at the index of its one-element shape. -/
theorem word_apply (x : S_.Idx → BitVec 32) (j : S1.Idx) : shapeCast S1 x shapeCasts_S_S1 j = x ix0 :=
  congrArg x (funext fun a => a.elim0)

/-- The inputs' zero point at a point. -/
theorem iblk0_apply (t : Fin cfg0.N) : iblk m c 0 t (ix1 0) = argZa m c ix0 := by
  unfold iblk
  rw [View.read_apply]
  show V m c main_v0 _ = _
  rw [V_v0]
  exact word_apply _ _

/-- The results' zero point at a point. -/
theorem iblk1_apply (t : Fin cfg0.N) : iblk m c 1 t (ix1 0) = argZc m c ix0 := by
  unfold iblk
  rw [View.read_apply]
  show V m c main_v1 _ = _
  rw [V_v1]
  exact word_apply _ _

end Cert.KernelIdeal.Inputs

end
-- ==== Proof.Cases.lean ====
/-
  Hand-written. What one grid point of the kernel leaves in its two scratch buffers and in its result block, as the
  body's own named terms of the input blocks: the first step of a sum (the scratch reset), a middle step, the last step.
-/
module

public import proofs.«01_k».proof.Proof.Gen.KernelIdeal.Value
public import Idealize.ShloMosaic.Lib.Tactic
public import Idealize.ShloMosaic.Lib.Pipeline.Value
public import Idealize.ShloMosaic.Lib.Pointwise

@[expose] public section

set_option maxRecDepth 16384

noncomputable section

namespace Cert.KernelIdeal.Cases

open Cert.KernelIdeal Cert.KernelIdeal.Gen Idealize.ShloMosaic Idealize.ShloMosaic.TcCoe Idealize.SL.Sem

variable {F : FTy → Type} [FloatOps F]
variable (c : Dev nD) (i : grid0.Coords) (arg3 : Memref sig .tc .smem S1 .i32) (harg3 : arg3.IsWhole)
  (arg4 : Memref sig .tc .smem S1 .i32) (harg4 : arg4.IsWhole) (arg5 : Memref sig .tc .vmem S1024x1024 .i8)
  (harg5 : arg5.IsWhole) (arg6 : Memref sig .tc .vmem S1024x1024 .i8) (harg6 : arg6.IsWhole)
  (arg7 : Memref sig .tc .vmem S1x1024 .i32) (harg7 : arg7.IsWhole) (arg8 : Memref sig .tc .vmem S1x1024 .i32)
  (harg8 : arg8.IsWhole) (arg9 : Memref sig .tc .vmem S1x1024 .i32) (harg9 : arg9.IsWhole)
  (arg10 : Memref sig .tc .vmem S1024x1024 .i8) (harg10 : arg10.IsWhole)
  (arg11 : Memref sig .tc .vmem S1024x1024 .i32) (harg11 : arg11.IsWhole) (arg12 : Memref sig .tc .vmem S1x1024 .i32)
  (harg12 : arg12.IsWhole)
  (x0 x1 : Vec F S1 .i32) (x2 x3 : Vec F S1024x1024 .i8) (x4 x5 x6 : Vec F S1x1024 .i32)
  (xs0 : Vec F S1024x1024 .i32) (xs1 : Vec F S1x1024 .i32)

/-- The offsets of a whole-buffer access of rank two are zero. -/
theorem hz : (![0, 0] : Fin 2 → Nat) = fun _ => 0 := funext fun a => by fin_cases a <;> rfl

/-- The first step of a sum leaves, in the product scratch, the zero block plus the first product. -/
theorem sout0_A_0_eq (hc0 : cond0_0 i) (hc1 : ¬cond0_1 i) :
    sout0_A_0 c i arg3 harg3 arg4 harg4 arg5 harg5 arg6 harg6 arg7 harg7 arg8 harg8 arg9 harg9 arg10 harg10 arg11 harg11 arg12 harg12 hc0 hc1 x0 x1 x2 x3 x4 x5 x6
      = k0_pay3 x3 x2 k0_pay1 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg7.read_unread, harg8.read_unread, harg9.read_unread,
    harg11.read_unread, harg12.read_unread, View.ld_unit_zero (S := S1024x1024) hz, View.ld_unit_zero (S := S1x1024) hz]

/-- The first step leaves, in the column-sum scratch, the zero row plus the first block's column sums. -/
theorem sout0_A_1_eq (hc0 : cond0_0 i) (hc1 : ¬cond0_1 i) :
    sout0_A_1 c i arg3 harg3 arg4 harg4 arg5 harg5 arg6 harg6 arg7 harg7 arg8 harg8 arg9 harg9 arg10 harg10 arg11 harg11 arg12 harg12 hc0 hc1 x0 x1 x2 x3 x4 x5 x6
      = k0_pay4 x3 k0_pay2 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  rw [View.canon_cons_unit_zero (S := S1x1024) hz, View.readCov_unit_zero (S := S1x1024) _ hz]
  simp only [View.readAt_eq_ld, harg3.read_unread, harg4.read_unread, harg5.read_unread, harg6.read_unread, harg7.read_unread, harg8.read_unread, harg9.read_unread,
    harg11.read_unread, harg12.read_unread, View.ld_unit_zero (S := S1024x1024) hz, View.ld_unit_zero (S := S1x1024) hz]

/-- A middle step adds its block product to the product scratch. -/
theorem sout0_B_0_eq (hc0 : ¬cond0_0 i) (hc1 : ¬cond0_1 i) :
    sout0_B_0 c i arg3 harg3 arg4 harg4 arg5 harg5 arg6 harg6 arg7 harg7 arg8 harg8 arg9 harg9 arg10 harg10 arg11 harg11 arg12 harg12 hc0 hc1 x0 x1 x2 x3 x4 x5 x6 xs0 xs1
      = k0_pay3 x3 x2 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread,
    harg11.read_unread, harg12.read_unread, View.ld_unit_zero (S := S1024x1024) hz, View.ld_unit_zero (S := S1x1024) hz]

/-- A middle step adds its block's column sums to the column-sum scratch. -/
theorem sout0_B_1_eq (hc0 : ¬cond0_0 i) (hc1 : ¬cond0_1 i) :
    sout0_B_1 c i arg3 harg3 arg4 harg4 arg5 harg5 arg6 harg6 arg7 harg7 arg8 harg8 arg9 harg9 arg10 harg10 arg11 harg11 arg12 harg12 hc0 hc1 x0 x1 x2 x3 x4 x5 x6 xs0 xs1
      = k0_pay4 x3 xs1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread,
    harg11.read_unread, harg12.read_unread, View.ld_unit_zero (S := S1024x1024) hz, View.ld_unit_zero (S := S1x1024) hz]

/-- The last step adds its block product to the product scratch. -/
theorem sout0_C_0_eq (hc0 : ¬cond0_0 i) (hc1 : cond0_1 i) :
    sout0_C_0 c i arg3 harg3 arg4 harg4 arg5 harg5 arg6 harg6 arg7 harg7 arg8 harg8 arg9 harg9 arg10 harg10 arg11 harg11 arg12 harg12 hc0 hc1 x0 x1 x2 x3 x4 x5 x6 xs0 xs1
      = k0_pay3 x3 x2 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread,
    harg11.read_unread, harg12.read_unread, View.ld_unit_zero (S := S1024x1024) hz, View.ld_unit_zero (S := S1x1024) hz]

/-- The last step adds its block's column sums to the column-sum scratch. -/
theorem sout0_C_1_eq (hc0 : ¬cond0_0 i) (hc1 : cond0_1 i) :
    sout0_C_1 c i arg3 harg3 arg4 harg4 arg5 harg5 arg6 harg6 arg7 harg7 arg8 harg8 arg9 harg9 arg10 harg10 arg11 harg11 arg12 harg12 hc0 hc1 x0 x1 x2 x3 x4 x5 x6 xs0 xs1
      = k0_pay4 x3 xs1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread,
    harg11.read_unread, harg12.read_unread, View.ld_unit_zero (S := S1024x1024) hz, View.ld_unit_zero (S := S1x1024) hz]

/-- The word the kernel reads from a one-word scalar buffer is the buffer's only word. -/
theorem word_eq (x : Vec F S1 .i32) (j : S1.Idx) : x j = x (ix1 0) :=
  congrArg x ((eq_ix1 j).trans (congrArg ix1 (Subsingleton.elim (α := Fin 1) _ _)))

/-- The last step writes the requantised block: the two scratch buffers after its own additions, the bias row, the
    multiplier and shift rows, and the two zero-point words. -/
theorem out0_C_7_eq (hc0 : ¬cond0_0 i) (hc1 : cond0_1 i) :
    out0_C_7 c i arg3 harg3 arg4 harg4 arg5 harg5 arg6 harg6 arg7 harg7 arg8 harg8 arg9 harg9 arg10 harg10 arg11 harg11 arg12 harg12 hc0 hc1 x0 x1 x2 x3 x4 x5 x6 xs0 xs1
      = k0_pay5 (k0_pay8 x6) (x1 (ix1 0))
          (k0_pay12 (k0_pay3 x3 x2 xs0) x4 (x0 (ix1 0)) (k0_pay4 x3 xs1) x5)
          (k0_pay13 (k0_pay3 x3 x2 xs0) x4 (x0 (ix1 0)) (k0_pay4 x3 xs1) x5)
          (k0_pay14 (k0_pay3 x3 x2 xs0) x4 (x0 (ix1 0)) (k0_pay4 x3 xs1) x5) k0_pay15 := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun0_C
  dsimp only
  sl_unfold_words
  rw [View.canon_unit_zero hz]
  simp only [View.readAt_eq_ld, harg3.read_unread, harg4.read_unread, harg5.read_unread, harg6.read_unread,
    harg7.read_unread, harg8.read_unread, harg9.read_unread, harg11.read_unread, harg12.read_unread,
    View.ld_unit_zero (S := S1024x1024) hz, View.ld_unit_zero (S := S1x1024) hz,
    View.readCov_unit_zero (S := S1024x1024) _ hz, View.readCov_unit_zero (S := S1x1024) _ hz]
  have hw : ∀ (x : Vec F S1 .i32) (j : S1.Idx), View.ld x (Rect.unit ![0] ![1] inb_S1_S1_0) j = x (ix1 0) :=
    fun x j => word_eq x _
  rw [hw x0, hw x1]

end Cert.KernelIdeal.Cases

end
-- ==== Proof.KernelValue.lean ====
/-
  Hand-written. The kernel's result array: by induction over the grid points the two scratch buffers hold the product and the column
  sums of the positions seen so far, and the point that writes a block back writes the requantised result of Spec.lean.
-/
module

public import proofs.«01_k».proof.Proof.Inputs
public import proofs.«01_k».proof.Proof.Cases

@[expose] public section

set_option maxRecDepth 16384

noncomputable section

namespace Cert.KernelIdeal.Result

open Cert.KernelIdeal Cert.KernelIdeal.Gen Idealize.ShloMosaic Idealize.ShloMosaic.TcCoe Idealize.SL.Sem
open Cert.KernelIdeal.Block Cert.KernelIdeal.Inputs Cert.KernelIdeal.Cases Cert.Spec

variable (m : (ℓ : Loc nD τ sig) → Buf (Elt Ideal) ℓ) (c : Dev nD)

/-- The product scratch after point `n`. -/
abbrev prod (n : ℕ) (hn : n < cfg0.N) : Vec Ideal S1024x1024 .i32 := (outsAt0 m c n hn).2.1
/-- The column-sum scratch after point `n`. -/
abbrev sums (n : ℕ) (hn : n < cfg0.N) : Vec Ideal S1x1024 .i32 := (outsAt0 m c n hn).2.2

/-- At the first step of a sum the product scratch is the first product onto zero. -/
theorem prod_first (t : Fin cfg0.N) (h0 : t.val % 16 = 0) :
    prod m c t.val t.isLt = k0_pay3 (F := Ideal) (iblk m c 3 t) (iblk m c 2 t) k0_pay1 := by
  unfold prod
  rw [outsAt0_A m c t h0 (by omega)]
  dsimp only
  rw [sout0_A_0_eq]

/-- At the first step of a sum the column-sum scratch is the first column sums onto zero. -/
theorem sums_first (t : Fin cfg0.N) (h0 : t.val % 16 = 0) :
    sums m c t.val t.isLt = k0_pay4 (F := Ideal) (iblk m c 3 t) k0_pay2 := by
  unfold sums
  rw [outsAt0_A m c t h0 (by omega)]
  dsimp only
  rw [sout0_A_1_eq]

/-- At a later step the product scratch is the step's product onto what the point before left. -/
theorem prod_next (t : Fin cfg0.N) (h0 : ¬t.val % 16 = 0) (hp : t.val - 1 < cfg0.N) :
    prod m c t.val t.isLt = k0_pay3 (F := Ideal) (iblk m c 3 t) (iblk m c 2 t) (prod m c (t.val - 1) hp) := by
  unfold prod
  by_cases h1 : t.val % 16 = 15
  · rw [outsAt0_C m c t h0 h1]
    dsimp only
    rw [sout0_C_0_eq]
  · rw [outsAt0_B m c t h0 h1]
    dsimp only
    rw [sout0_B_0_eq]

/-- At a later step the column-sum scratch is the step's column sums onto what the point before left. -/
theorem sums_next (t : Fin cfg0.N) (h0 : ¬t.val % 16 = 0) (hp : t.val - 1 < cfg0.N) :
    sums m c t.val t.isLt = k0_pay4 (F := Ideal) (iblk m c 3 t) (sums m c (t.val - 1) hp) := by
  unfold sums
  by_cases h1 : t.val % 16 = 15
  · rw [outsAt0_C m c t h0 h1]
    dsimp only
    rw [sout0_C_1_eq]
  · rw [outsAt0_B m c t h0 h1]
    dsimp only
    rw [sout0_B_1_eq]

/-- The point that writes a block back writes the body's requantisation of the two scratch buffers as it leaves them. -/
theorem out_last (t : Fin cfg0.N) (h1 : t.val % 16 = 15) :
    (outsAt0 m c t.val t.isLt).1
      = k0_pay5 (F := Ideal) (k0_pay8 (F := Ideal) (iblk m c 6 t)) (iblk m c 1 t (ix1 0))
          (k0_pay12 (F := Ideal) (prod m c t.val t.isLt) (iblk m c 4 t) (iblk m c 0 t (ix1 0)) (sums m c t.val t.isLt) (iblk m c 5 t))
          (k0_pay13 (F := Ideal) (prod m c t.val t.isLt) (iblk m c 4 t) (iblk m c 0 t (ix1 0)) (sums m c t.val t.isLt) (iblk m c 5 t))
          (k0_pay14 (F := Ideal) (prod m c t.val t.isLt) (iblk m c 4 t) (iblk m c 0 t (ix1 0)) (sums m c t.val t.isLt) (iblk m c 5 t))
          k0_pay15 := by
  have h0 : ¬t.val % 16 = 0 := by omega
  have hp : t.val - 1 < cfg0.N := lt_of_le_of_lt (Nat.sub_le _ _) t.isLt
  rw [prod_next m c t h0 hp, sums_next m c t h0 hp]
  rw [outsAt0_C m c t h0 h1]
  dsimp only
  rw [out0_C_7_eq]

/-- The product of a point's input and weight blocks, as positions of the whole arrays. -/
theorem block_dot (t : Fin cfg0.N) (r n : Fin 1024) :
    ∑ k : Fin 1024, wide (iblk m c 2 t (ix2 r k)) * wide (iblk m c 3 t (ix2 k n))
      = ∑ k : Fin 1024, xw (argX m c) (1024 * (t.val / 96) + r.val) (1024 * (t.val % 16) + k.val)
          * ww (argW m c) (1024 * (t.val % 16) + k.val) (1024 * (t.val / 16 % 6) + n.val) :=
  Finset.sum_congr rfl fun k _ => by rw [iblk2_apply, iblk3_apply]

/-- The column sums of a point's weight block, as positions of the whole array. -/
theorem block_sum (t : Fin cfg0.N) (n : Fin 1024) :
    ∑ k : Fin 1024, wide (iblk m c 3 t (ix2 k n))
      = ∑ k : Fin 1024, ww (argW m c) (1024 * (t.val % 16) + k.val) (1024 * (t.val / 16 % 6) + n.val) :=
  Finset.sum_congr rfl fun k _ => by rw [iblk3_apply]

/-- AFTER POINT `t` the product scratch holds the product of the first (t mod 16 + 1) · 1024 positions, at the point's
    block of rows and columns. -/
theorem prod_eq (r n : Fin 1024) : ∀ (j : ℕ) (hj : j < cfg0.N),
    prod m c j hj (ix2 r n)
      = dot (argX m c) (argW m c) (1024 * (j % 16) + 1024) (1024 * (j / 96) + r.val) (1024 * (j / 16 % 6) + n.val) := by
  intro j
  induction j with
  | zero =>
    intro hj
    rw [prod_first m c ⟨0, hj⟩ rfl, pay3_apply, pay1_apply, block_dot, dot_add]
    rfl
  | succ j ih =>
    intro hj
    by_cases h0 : (j + 1) % 16 = 0
    · rw [prod_first m c ⟨j + 1, hj⟩ h0, pay3_apply, pay1_apply, block_dot, dot_add]
      dsimp only
      rw [h0]
      rfl
    · rw [prod_next m c ⟨j + 1, hj⟩ h0 (Nat.lt_of_succ_lt hj), pay3_apply, block_dot, dot_add]
      dsimp only
      refine congrArg (· + _) ((ih (Nat.lt_of_succ_lt hj)).trans ?_)
      rw [show 1024 * (j % 16) + 1024 = 1024 * ((j + 1) % 16) from by omega, show j / 96 = (j + 1) / 96 from by omega,
        show j / 16 = (j + 1) / 16 from by omega]

/-- AFTER POINT `t` the column-sum scratch holds the column sums of the first (t mod 16 + 1) · 1024 positions. -/
theorem sums_eq (n : Fin 1024) : ∀ (j : ℕ) (hj : j < cfg0.N),
    sums m c j hj (ix2 0 n) = colSum (argW m c) (1024 * (j % 16) + 1024) (1024 * (j / 16 % 6) + n.val) := by
  intro j
  induction j with
  | zero =>
    intro hj
    rw [sums_first m c ⟨0, hj⟩ rfl, pay4_apply, pay2_apply, block_sum, colSum_add]
    rfl
  | succ j ih =>
    intro hj
    by_cases h0 : (j + 1) % 16 = 0
    · rw [sums_first m c ⟨j + 1, hj⟩ h0, pay4_apply, pay2_apply, block_sum, colSum_add]
      dsimp only
      rw [h0]
      rfl
    · rw [sums_next m c ⟨j + 1, hj⟩ h0 (Nat.lt_of_succ_lt hj), pay4_apply, block_sum, colSum_add]
      dsimp only
      refine congrArg (· + _) ((ih (Nat.lt_of_succ_lt hj)).trans ?_)
      rw [show 1024 * (j % 16) + 1024 = 1024 * ((j + 1) % 16) from by omega, show j / 16 = (j + 1) / 16 from by omega]

/-- THE RESULT ARRAY is the layer's result on the arguments as launched. -/
theorem G7_eq : Value.G7 m c
    = Spec.result (argX m c) (argZa m c) (argW m c) (argB m c) (argM m c) (argS m c) (argZc m c) := by
  funext i
  have hi0 : (i 0).val < 4096 := (i 0).isLt
  have hi1 : (i 1).val < 6144 := (i 1).isLt
  have hp : Value.pt7Of i < cfg0.N := by
    rw [show cfg0.N = 384 from N_0]
    show 16 * (6 * ((i 0).val / 1024 - 0) + 1 * ((i 1).val / 1024 - 0)) + 15 < 384
    omega
  have h15 : Value.pt7Of i % 16 = 15 := by
    show (16 * (6 * ((i 0).val / 1024 - 0) + 1 * ((i 1).val / 1024 - 0)) + 15) % 16 = 15
    omega
  have h96 : 1024 * (Value.pt7Of i / 96) + (i 0).val % 1024 = (i 0).val := by
    show 1024 * ((16 * (6 * ((i 0).val / 1024 - 0) + 1 * ((i 1).val / 1024 - 0)) + 15) / 96) + (i 0).val % 1024 = (i 0).val
    omega
  have h6 : 1024 * (Value.pt7Of i / 16 % 6) + (i 1).val % 1024 = (i 1).val := by
    show 1024 * ((16 * (6 * ((i 0).val / 1024 - 0) + 1 * ((i 1).val / 1024 - 0)) + 15) / 16 % 6) + (i 1).val % 1024 = (i 1).val
    omega
  unfold Value.G7
  rw [dif_pos hp, ← Value.outsAt0_sweep m c (Value.pt7Of i) hp]
  rw [out_last m c ⟨Value.pt7Of i, hp⟩ h15]
  have hl : Value.loc7Of i = ix2 ⟨(i 0).val % 1024, Nat.mod_lt _ (by decide)⟩ ⟨(i 1).val % 1024, Nat.mod_lt _ (by decide)⟩ := by
    funext a
    match a with
    | ⟨0, _⟩ => rfl
    | ⟨1, _⟩ => rfl
  rw [hl, pay5_apply, prod_eq, sums_eq, iblk4_apply, iblk5_apply, iblk6_apply, iblk0_apply, iblk1_apply]
  have hc : ∀ (x : S6144.Idx → BitVec 32) (h : 1024 * (Value.pt7Of i / 16 % 6) + (i 1).val % 1024 < 6144),
      x (ix1 ⟨1024 * (Value.pt7Of i / 16 % 6) + (i 1).val % 1024, h⟩) = x (ix1 (i 1)) :=
    fun x h => congrArg (fun b => x (ix1 b)) (Fin.ext h6)
  dsimp only
  rw [hc (argB m c), hc (argM m c), hc (argS m c), h15, h96, h6]
  rfl

end Cert.KernelIdeal.Result

end
-- ==== Proof.ReferenceValue.lean ====
/-
  Hand-written. The reference's result array read at an index: its accumulator is the integer product less the zero point's
  share plus the bias, and its requantisation is the word functions of Requant.lean.
-/
module

public import proofs.«01_k».proof.Proof.Gen.ReferenceIdeal.Run
public import proofs.«01_k».proof.Proof.Spec
public import Idealize.ShloMosaic.Lib.Pointwise
public import Idealize.ShloMosaic.Lib.Tactic.CleanTypes

@[expose] public section

set_option maxRecDepth 16384

noncomputable section

namespace Cert.ReferenceIdeal.Result

open Cert.ReferenceIdeal Cert.ReferenceIdeal.Gen Cert.ReferenceIdeal.Value Idealize.ShloMosaic Idealize.SL.Sem
open Cert.KernelIdeal.Block Cert.Spec Cert.Requant

variable (V0 : Valuation τ sig (Elt Ideal))

/-- The inputs. -/
abbrev argX : S2x2048x16384.Idx → BitVec 8 := V0 (Proc.devRef .tc main_arg0)
/-- The inputs' zero point. -/
abbrev argZa : S_.Idx → BitVec 32 := V0 (Proc.devRef .tc main_arg1)
/-- The weights. -/
abbrev argW : S16384x6144.Idx → BitVec 8 := V0 (Proc.devRef .tc main_arg2)
/-- The bias. -/
abbrev argB : S6144.Idx → BitVec 32 := V0 (Proc.devRef .tc main_arg3)
/-- The multipliers. -/
abbrev argM : S6144.Idx → BitVec 32 := V0 (Proc.devRef .tc main_arg4)
/-- The shifts. -/
abbrev argS : S6144.Idx → BitVec 32 := V0 (Proc.devRef .tc main_arg5)
/-- The results' zero point. -/
abbrev argZc : S_.Idx → BitVec 32 := V0 (Proc.devRef .tc main_arg6)

/-- The reference's accumulator at an index of its three axes. -/
theorem acc_apply (b : Fin 2) (s : Fin 2048) (n : Fin 6144) :
    res_main_v16 V0 (ix3 b s n)
      = (dot (argX V0) (argW V0) 16384 (2048 * b.val + s.val) n.val - argZa V0 ix0 * colSum (argW V0) 16384 n.val)
        + argB V0 (ix1 n) := by
  have hd : dot (argX V0) (argW V0) 16384 (2048 * b.val + s.val) n.val
      = ∑ k : Fin 16384, wide (argX V0 (ix3 b s k)) * wide (argW V0 (ix2 k n)) := by
    unfold dot
    rw [Finset.sum_range]
    refine Finset.sum_congr rfl fun k _ => ?_
    have hb := b.isLt
    have hs := s.isLt
    unfold xw ww
    rw [dif_pos ⟨by omega, k.isLt⟩, dif_pos ⟨k.isLt, n.isLt⟩]
    have h0 : (⟨(2048 * b.val + s.val) / 2048, by omega⟩ : Fin 2) = b := Fin.ext (by simp only []; omega)
    have h1 : (⟨(2048 * b.val + s.val) % 2048, by omega⟩ : Fin 2048) = s := Fin.ext (by simp only []; omega)
    rw [h0, h1]
  have hc : colSum (argW V0) 16384 n.val = ∑ k : Fin 16384, wide (argW V0 (ix2 k n)) := by
    unfold colSum
    rw [Finset.sum_range]
    refine Finset.sum_congr rfl fun k _ => ?_
    unfold ww
    rw [dif_pos ⟨k.isLt, n.isLt⟩]
  rw [hd, hc]
  unfold res_main_v16 res_main_v1
  clean_types
  pointwise
  rfl

/-- The reference's rounded doubling high product at an index. -/
theorem high_apply (b : Fin 2) (s : Fin 2048) (n : Fin 6144) :
    res_main_v73 V0 (ix3 b s n) = refHigh (res_main_v16 V0 (ix3 b s n)) (argM V0 (ix1 n)) := by
  unfold res_main_v73 res_main_v71 res_main_v62 res_main_v55 res_main_v48 res_main_v40 res_main_v33 res_main_v30
    res_main_v28 res_main_v26 res_main_v24 res_main_v21 res_main_v20 res_main_v18
  clean_types
  simp only [id_eq]
  pointwise
  rfl

/-- The reference's result array. -/
def term : S4096x6144.Idx → BitVec 8 :=
  shapeCast _ (trunci 8 (minsi (broadcastInDim S2x2048x6144 ![] bcast_S_S2x2048x6144 (id (constantI S_ 32 127#32))) (maxsi (broadcastInDim S2x2048x6144 ![] bcast_S_S2x2048x6144 (id (constantI S_ 32 4294967168#32))) (addi (addi (Host.shrsi (res_main_v73 V0) (broadcastInDim S2x2048x6144 ![0, 1, 2] bcast_S1x1x6144_S2x2048x6144_0_1_2 (broadcastInDim S1x1x6144 ![2] bcast_S6144_S1x1x6144_2 (V0 (Proc.devRef .tc main_arg5))))) (extui 32 (cmpi .sgt (andi (res_main_v73 V0) (broadcastInDim S2x2048x6144 ![0, 1, 2] bcast_S1x1x6144_S2x2048x6144_0_1_2 (broadcastInDim S1x1x6144 ![2] bcast_S6144_S1x1x6144_2 (res_main_v77 V0)))) (addi (broadcastInDim S2x2048x6144 ![0, 1, 2] bcast_S1x1x6144_S2x2048x6144_0_1_2 (broadcastInDim S1x1x6144 ![2] bcast_S6144_S1x1x6144_2 (Host.shrsi (res_main_v77 V0) (broadcastInDim S6144 ![] bcast_S_S6144 (constantI S_ 32 1#32))))) (extui 32 (cmpi .slt (res_main_v73 V0) (broadcastInDim S2x2048x6144 ![] bcast_S_S2x2048x6144 (constantI S_ 32 0#32))) natLt_1_32))) natLt_1_32)) (broadcastInDim S2x2048x6144 ![] bcast_S_S2x2048x6144 (V0 (Proc.devRef .tc main_arg6)))))) natLt_8_32) shapeCasts_S2x2048x6144_S4096x6144

/-- The reference's result at an index: the accumulator multiplied, shifted, moved by the zero point and clamped. -/
theorem term_apply (r : Fin 4096) (n : Fin 6144) : term V0 (ix2 r n)
    = (IntOp.minsi 127#32 (IntOp.maxsi 4294967168#32 (IntOp.addi
        (refShift (refHigh
          ((dot (argX V0) (argW V0) 16384 r.val n.val - argZa V0 ix0 * colSum (argW V0) 16384 n.val) + argB V0 (ix1 n))
          (argM V0 (ix1 n))) (argS V0 (ix1 n))) (argZc V0 ix0)))).setWidth 8 := by
  have hr := r.isLt
  have h0 := acc_apply V0 ⟨r.val / 2048, by omega⟩ ⟨r.val % 2048, by omega⟩ n
  simp only [Nat.div_add_mod] at h0
  rw [← h0, ← high_apply]
  unfold term res_main_v77
  clean_types
  simp only [id_eq]
  pointwise
  rfl

/-- The two orders in which the accumulator is put together give one word. -/
theorem acc_comm (a b za s : BitVec 32) : (a - za * s) + b = IntOp.addi a (IntOp.subi b (IntOp.muli za s)) := by
  show _ = a + (b - za * s)
  rw [sub_add_eq_add_sub, add_sub_assoc]

/-- Where the multipliers are nonnegative and the shifts lie in [0, 32), the reference's result is the layer's. -/
theorem term_eq (hm : ∀ i, 0 ≤ (argM V0 i).toInt) (hs0 : ∀ i, 0 ≤ (argS V0 i).toInt) (hs1 : ∀ i, (argS V0 i).toInt < 32) :
    term V0 = result (argX V0) (argZa V0) (argW V0) (argB V0) (argM V0) (argS V0) (argZc V0) := by
  funext j
  idx_vars j
  rw [term_apply]
  show _ = finish _ _ _ _ _ _ _
  unfold finish
  have hq := refHigh_range (IntOp.addi (dot (argX V0) (argW V0) 16384 j0.val j1.val)
    (IntOp.subi (argB V0 (ix1 j1)) (IntOp.muli (argZa V0 ix0) (colSum (argW V0) 16384 j1.val)))) (argM V0 (ix1 j1)) (hm _)
  rw [acc_comm, ← kernelShift_eq_refShift _ _ (hs0 _) (hs1 _) hq.1 hq.2, ← kernelHigh_eq_refHigh _ _ (hm _)]
  rfl

end Cert.ReferenceIdeal.Result

end
-- ==== Proof.lean ====
/-
  Hand-written. The certificate of `Cert.Claim`: the three frames, the idealization, and the kernel and the reference
  giving one array where the multipliers are nonnegative and the shifts lie in [0, 32).

  Both programs end at `Cert.Spec.result` of the seven arguments: the kernel by `Cert.KernelIdeal.Result.G7_eq`
  (Proof/KernelValue.lean), the reference by `Cert.ReferenceIdeal.Result.term_eq` (Proof/ReferenceValue.lean).
-/
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pre
public import proofs.«01_k».proof.Proof.KernelValue
public import proofs.«01_k».proof.Proof.ReferenceValue
public import Idealize.ShloMosaic.Adequacy
public import Idealize.ShloMosaic.Lib.Affine
public import Idealize.ShloMosaic.Init

@[expose] public section

set_option maxRecDepth 16384

noncomputable section

namespace Cert.Proof

open Idealize.ShloMosaic Idealize.SL.Sem

/-- The precondition, read: every multiplier is nonnegative and every shift lies in [0, 32). -/
theorem pre_read (x : IVec Cert.Pre_pre.S2x2048x16384 8) (za : IVec Cert.Pre_pre.S_ 32) (w : IVec Cert.Pre_pre.S16384x6144 8)
    (b mult shift : IVec Cert.Pre_pre.S6144 32) (zc : IVec Cert.Pre_pre.S_ 32)
    (h : (Cert.Pre_pre.fn (F := Ideal) x za w b mult shift zc).1 = (fun _ => 1#1)
      ∧ (Cert.Pre_pre.fn (F := Ideal) x za w b mult shift zc).2.1 = (fun _ => 1#1)
      ∧ (Cert.Pre_pre.fn (F := Ideal) x za w b mult shift zc).2.2 = (fun _ => 1#1)) :
    (∀ i, 0 ≤ (mult i).toInt) ∧ (∀ i, 0 ≤ (shift i).toInt) ∧ ∀ i, (shift i).toInt < 32 := by
  simp only [Cert.Pre_pre.fn] at h
  obtain ⟨h1, h2, h3⟩ := h
  refine ⟨fun i => ?_, fun i => ?_, fun i => ?_⟩
  · have hi := congrFun h1 i
    simp only [cmpi, broadcastInDim, constantI] at hi
    exact IntOp.cmpi_sge.mp hi
  · have hi := congrFun h2 i
    simp only [cmpi, broadcastInDim, constantI] at hi
    exact IntOp.cmpi_sge.mp hi
  · have hi := congrFun h3 i
    simp only [cmpi, broadcastInDim, constantI] at hi
    exact IntOp.cmpi_slt.mp hi

/-- The reference runs, keeps its arguments and ends with every counter at zero: it declares no semaphore. -/
theorem frame_r : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- `Cert.algebraic_KernelIdeal_ReferenceIdeal_pre_pre`: both programs end with the layer's result of the arguments. -/
theorem algebraic : Cert.algebraic_KernelIdeal_ReferenceIdeal_pre_pre := by
  intro m ρ m' ρ' hpre hag
  refine ⟨fun c => Cert.KernelIdeal.Value.G7 m c, Cert.KernelIdeal.Value.run m ρ, ?_⟩
  refine (θ_run Cert.ReferenceIdeal.defs _ _).mono (fun r h c => ⟨(h c).1.trans ?_, (h c).2⟩)
    (Cert.ReferenceIdeal.Value.run (F := Ideal) m' ρ')
  obtain ⟨hm, hs0, hs1⟩ := pre_read _ _ _ _ _ _ _ (hpre c)
  obtain ⟨a0, a1, a2, a3, a4, a5, a6⟩ := hag c
  refine (Cert.ReferenceIdeal.Result.term_eq (StableHlo.launchContents m' c) ?_ ?_ ?_).trans ?_
  · intro i
    refine le_of_le_of_eq (hm i) (congrArg BitVec.toInt (congrFun a4 i).symm)
  · intro i
    refine le_of_le_of_eq (hs0 i) (congrArg BitVec.toInt (congrFun a5 i).symm)
  · intro i
    refine lt_of_eq_of_lt (congrArg BitVec.toInt (congrFun a5 i)) (hs1 i)
  · refine Eq.trans ?_ (Cert.KernelIdeal.Result.G7_eq m c).symm
    exact Cert.Spec.result_congr a0 a1 a2 a3 a4 a5 a6

/-- The certificate. -/
theorem claim : Cert.Claim := ⟨Cert.Kernel.Gen.facts, Cert.KernelIdeal.Gen.facts, Cert.ReferenceIdeal.Gen.facts,
  Cert.Pre_pre.Gen.facts, fun m ρ _ => Cert.Kernel.Gen.frame m ρ, fun m ρ _ => Cert.KernelIdeal.Gen.frame m ρ,
  fun m ρ _ => Cert.KernelIdeal.Gen.frame m ρ, frame_r, fun m ρ _ => frame_r m ρ True.intro, trivial, algebraic⟩

end Cert.Proof

end
